-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S4096x512 : Shape := ⟨2, ![4096, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S4096x512 .bf16) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16384#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_range_ReferenceIdeal.lean ====
abbrev S16384x512 : Shape := ⟨2, ![16384, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S16384x512 .bf16) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16384#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S4096x512 : Shape := ⟨2, ![4096, 512]⟩
abbrev S1024 : Shape := ⟨1, ![1024]⟩
abbrev S1024x512 : Shape := ⟨2, ![1024, 512]⟩
abbrev S512x512 : Shape := ⟨2, ![512, 512]⟩
abbrev S2x2x512x512 : Shape := ⟨4, ![2, 2, 512, 512]⟩
abbrev S2x2 : Shape := ⟨2, ![2, 2]⟩
abbrev S_ : Shape := ⟨0, ![]⟩
abbrev S1024x1 : Shape := ⟨2, ![1024, 1]⟩
abbrev S1024x4096 : Shape := ⟨2, ![1024, 4096]⟩
abbrev S1x1 : Shape := ⟨2, ![1, 1]⟩
abbrev S1x1x512x512 : Shape := ⟨4, ![1, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S1024, .i32⟩
  | .hbm, ⟨2, _⟩ => ⟨S1024x512, .f32⟩
  | .local _ .vmem, ⟨0, _⟩ => ⟨S4096x512, .bf16⟩
  | .local _ .vmem, ⟨1, _⟩ => ⟨S1024, .i32⟩
  | .local _ .vmem, ⟨2, _⟩ => ⟨S1024x512, .f32⟩
  | .local _ .vmem, ⟨3, _⟩ => ⟨S512x512, .bf16⟩
  | .local _ .vmem, ⟨4, _⟩ => ⟨S512x512, .bf16⟩
  | .local _ .vmem, ⟨5, _⟩ => ⟨S2x2x512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_18 : BitVec 32 := 1#32
  let v34 : BitVec 32 := Scalar.muli v3 c1_i32_18
  let v35 : BitVec 32 := Scalar.addi c0_i32_19 v34
  v35.toNat
def k0_dev4 (d0 : Dev nD) : Nat :=
  let c0_i32_29 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_28 : BitVec 32 := 1#32
  let v42 : BitVec 32 := Scalar.muli v4 c1_i32_28
  let v43 : BitVec 32 := Scalar.addi c0_i32_29 v42
  v43.toNat
def k0_dev5 (d0 : Dev nD) : Nat :=
  let c0_i32_92 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_91 : BitVec 32 := 1#32
  let v84 : BitVec 32 := Scalar.muli v4 c1_i32_91
  let v85 : BitVec 32 := Scalar.addi c0_i32_92 v84
  v85.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_101 : BitVec 32 := 1#32
  let v92 : BitVec 32 := Scalar.muli v3 c1_i32_101
  let v93 : BitVec 32 := Scalar.addi c0_i32_102 v92
  v93.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x512 : Shape := ⟨2, ![16384, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x512, .bf16⟩
  | .hbm, ⟨11, _⟩ => ⟨S1024x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.KernelIdeal.Protocol.lean ====
/-
The exchange of the kernel, as a protocol: the four devices, their memrefs and cells, what each transfer carries, and
the schedule of duties the body is run against.

Every device `c` has two partners, `pA c` (the device differing in the lowest bit) and `pB c` (the mirror image
`3 - c`). It signals both on the barrier semaphore and waits for both, so that no copy lands in a buffer whose owner
has not yet arrived. Then four copies leave it, numbered `0 … 3`: copy `q` goes to slot `q` of the receive buffer of
device `pe q c`, and slot `q` of `c` is filled by the device `pe q c` likewise (each partner map is its own inverse).

The barrier signal of a device hands its partner the two slots that this partner is going to fill; a copy hands the
receiver the slot filled, and its sender the source buffer back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: any memory, counters at zero. -/
def s₀ : MemSt nD τ sig (Elt F) := ⟨m, fun _ => 0, ρ⟩

/-! ## Partners -/

/-- The partner that differs in the lowest bit. -/
def pA (c : Dev nD) : Dev nD := (![1, 0, 3, 2] : Fin 4 → Fin 4) c
/-- The mirror image. -/
def pB (c : Dev nD) : Dev nD := (![3, 2, 1, 0] : Fin 4 → Fin 4) c

theorem pA_pA (c : Dev nD) : pA (pA c) = c := by revert c; decide
theorem pB_pB (c : Dev nD) : pB (pB c) = c := by revert c; decide
theorem pA_pB (c : Dev nD) : pA (pB c) = pB (pA c) := by revert c; decide
theorem pA_ne_pB (c : Dev nD) : pA c ≠ pB c := by revert c; decide

def eA : Dev nD ≃ Dev nD := ⟨pA, pA, pA_pA, pA_pA⟩
def eB : Dev nD ≃ Dev nD := ⟨pB, pB, pB_pB, pB_pB⟩

/-- The device that copy `q` of `c` goes to, and that fills slot `q` of `c`. -/
def pe (q : Fin 4) (c : Dev nD) : Dev nD := match q with | 0 => pA c | 1 => pB c | 2 => pB c | 3 => pA c

theorem pe_pe (q : Fin 4) (c : Dev nD) : pe q (pe q c) = c := by revert c; revert q; decide

def ePe (q : Fin 4) : Dev nD ≃ Dev nD := ⟨pe q, pe q, pe_pe q, pe_pe q⟩

theorem dev1_eq (c : Dev nD) : (⟨k0_dev1 c, k0_dev1_lt c⟩ : Dev nD) = pA c := by revert c; decide +kernel
theorem dev2_eq (c : Dev nD) : (⟨k0_dev2 c, k0_dev2_lt c⟩ : Dev nD) = pB c := by revert c; decide +kernel
theorem dev3_eq (c : Dev nD) : (⟨k0_dev3 c, k0_dev3_lt c⟩ : Dev nD) = pe 0 c := by revert c; decide +kernel
theorem dev4_eq (c : Dev nD) : (⟨k0_dev4 c, k0_dev4_lt c⟩ : Dev nD) = pe 1 c := by revert c; decide +kernel
theorem dev5_eq (c : Dev nD) : (⟨k0_dev5 c, k0_dev5_lt c⟩ : Dev nD) = pe 2 c := by revert c; decide +kernel
theorem dev6_eq (c : Dev nD) : (⟨k0_dev6 c, k0_dev6_lt c⟩ : Dev nD) = pe 3 c := by revert c; decide +kernel

/-! ## Memrefs and semaphores -/

abbrev tM : Memref sig .tc .vmem S4096x512 .bf16 := Memref.whole cc0_stg0_0
abbrev iM : Memref sig .tc .vmem S1024 .i32 := Memref.whole cc0_stg1_0
abbrev oM : Memref sig .tc .vmem S1024x512 .f32 := Memref.whole cc0_stg2_0
abbrev aM : Memref sig .tc .vmem S512x512 .bf16 := Memref.whole cc0_scratch0
abbrev bM : Memref sig .tc .vmem S512x512 .bf16 := Memref.whole cc0_scratch1
abbrev rM : Memref sig .tc .vmem S2x2x512x512 .bf16 := Memref.whole cc0_scratch2

abbrev rect00 : Rect S2x2x512x512 := Rect.unit (s := S2x2x512x512) ![0, 0, 0, 0] S1x1x512x512.size inb_S2x2x512x512_S1x1x512x512_0_0_0_0
abbrev rect01 : Rect S2x2x512x512 := Rect.unit (s := S2x2x512x512) ![0, 1, 0, 0] S1x1x512x512.size inb_S2x2x512x512_S1x1x512x512_0_1_0_0
abbrev rect10 : Rect S2x2x512x512 := Rect.unit (s := S2x2x512x512) ![1, 0, 0, 0] S1x1x512x512.size inb_S2x2x512x512_S1x1x512x512_1_0_0_0
abbrev rect11 : Rect S2x2x512x512 := Rect.unit (s := S2x2x512x512) ![1, 1, 0, 0] S1x1x512x512.size inb_S2x2x512x512_S1x1x512x512_1_1_0_0

/-- Slot `q` of the receive buffer, as the kernel names it. -/
abbrev slotM (q : Fin 4) : Memref sig .tc .vmem S512x512 .bf16 := match q with
  | 0 => (rM.slice rect00 (fun _ => rfl)).squeeze S512x512 squeezes_S1x1x512x512_S512x512
  | 1 => (rM.slice rect01 (fun _ => rfl)).squeeze S512x512 squeezes_S1x1x512x512_S512x512
  | 2 => (rM.slice rect10 (fun _ => rfl)).squeeze S512x512 squeezes_S1x1x512x512_S512x512
  | 3 => (rM.slice rect11 (fun _ => rfl)).squeeze S512x512 squeezes_S1x1x512x512_S512x512

/-- The buffer copy `q` is read from: the upper half's accumulator for even `q`, the lower half's for odd. -/
abbrev accM (q : Fin 4) : Memref sig .tc .vmem S512x512 .bf16 := match q with
  | 0 => aM | 1 => bM | 2 => aM | 3 => bM

abbrev barS : Sem sig := (SemArray.scalar (sig.barrier 0 rfl) : Sems sig S_).sem
/-- The semaphore copy `q` signals at its sender, and the one it signals at its receiver. -/
def sendS (q : Fin 4) : DmaSem sig := (![3, 4, 5, 6] : Fin 4 → Fin 11) q
def recvS (q : Fin 4) : DmaSem sig := (![7, 8, 9, 10] : Fin 4 → Fin 11) q

theorem send_0 : ((cc0_scratch3.slice (Rect.unit (s := S2x2) ![0, 0] S1x1.size inb_S2x2_S1x1_0_0)).squeeze S_ squeezes_S1x1_S_).sem = sendS 0 := rfl
theorem send_1 : ((cc0_scratch3.slice (Rect.unit (s := S2x2) ![0, 1] S1x1.size inb_S2x2_S1x1_0_1)).squeeze S_ squeezes_S1x1_S_).sem = sendS 1 := rfl
theorem send_2 : ((cc0_scratch3.slice (Rect.unit (s := S2x2) ![1, 0] S1x1.size inb_S2x2_S1x1_1_0)).squeeze S_ squeezes_S1x1_S_).sem = sendS 2 := rfl
theorem send_3 : ((cc0_scratch3.slice (Rect.unit (s := S2x2) ![1, 1] S1x1.size inb_S2x2_S1x1_1_1)).squeeze S_ squeezes_S1x1_S_).sem = sendS 3 := rfl
theorem recv_0 : ((cc0_scratch4.slice (Rect.unit (s := S2x2) ![0, 0] S1x1.size inb_S2x2_S1x1_0_0)).squeeze S_ squeezes_S1x1_S_).sem = recvS 0 := rfl
theorem recv_1 : ((cc0_scratch4.slice (Rect.unit (s := S2x2) ![0, 1] S1x1.size inb_S2x2_S1x1_0_1)).squeeze S_ squeezes_S1x1_S_).sem = recvS 1 := rfl
theorem recv_2 : ((cc0_scratch4.slice (Rect.unit (s := S2x2) ![1, 0] S1x1.size inb_S2x2_S1x1_1_0)).squeeze S_ squeezes_S1x1_S_).sem = recvS 2 := rfl
theorem recv_3 : ((cc0_scratch4.slice (Rect.unit (s := S2x2) ![1, 1] S1x1.size inb_S2x2_S1x1_1_1)).squeeze S_ squeezes_S1x1_S_).sem = recvS 3 := rfl

abbrev barCell (c : Dev nD) : GSem nD τ sig := ((c : Thread nD τ), .reg barS)
abbrev sendCell (q : Fin 4) (c : Dev nD) : GSem nD τ sig := ((c : Thread nD τ), .dma (sendS q))
abbrev recvCell (q : Fin 4) (c : Dev nD) : GSem nD τ sig := ((c : Thread nD τ), .dma (recvS q))

/-- The units a copy of one slot pays. -/
abbrev N : ℕ := (slotM 0).view.dmaCredit
theorem N_pos : 0 < N := View.dmaCredit_pos _ (by decide)

theorem credit_slot (q : Fin 4) : (slotM q).view.dmaCredit = N := by fin_cases q <;> rfl
theorem credit_acc (q : Fin 4) : (accM q).view.dmaCredit = N := by fin_cases q <;> rfl

/-! ## Contents -/

/-- Device `c`'s rows of the table and its copy of the indices, as staged. -/
def tab (c : Dev nD) : (cc0_stg0_0 : Ref sig .tc).ty.Contents (Elt F) :=
  (win0_0.blk t0_0).view.read (Elt F) ((s₀ m ρ).mem ((c : Thread nD τ).loc main_arg0))
def ids (c : Dev nD) : (cc0_stg1_0 : Ref sig .tc).ty.Contents (Elt F) :=
  (win0_1.blk t0_0).view.read (Elt F) ((s₀ m ρ).mem ((c : Thread nD τ).loc main_arg1))

/-- The sum of two half blocks, as the kernel stores it. -/
def addB (X Y : Vec F S512x512 .bf16) : Vec F S512x512 .bf16 := shapeCast S512x512 (addf X Y) shapeCasts_S512x512_S512x512

/-- What device `c` sends in copy `q`: first its own rows of the two halves, then each summed with a partner's. -/
def sent (q : Fin 4) (c : Dev nD) : Vec F S512x512 .bf16 := match q with
  | 0 => k0_pay6 c (ids m ρ c) (tab m ρ c)
  | 1 => k0_pay7 c (ids m ρ c) (tab m ρ c)
  | 2 => addB (k0_pay6 c (ids m ρ c) (tab m ρ c)) (k0_pay6 (pA c) (ids m ρ (pA c)) (tab m ρ (pA c)))
  | 3 => addB (k0_pay7 c (ids m ρ c) (tab m ρ c)) (k0_pay7 (pB c) (ids m ρ (pB c)) (tab m ρ (pB c)))

/-- The two halves after the second phase. -/
def topAt (c : Dev nD) : Vec F S512x512 .bf16 := addB (sent m ρ 2 c) (sent m ρ 2 (pB c))
def botAt (c : Dev nD) : Vec F S512x512 .bf16 := addB (sent m ρ 3 c) (sent m ρ 3 (pA c))

theorem sent_2 (c : Dev nD) : sent m ρ 2 c = addB (sent m ρ 0 c) (sent m ρ 0 (pA c)) := rfl
theorem sent_3 (c : Dev nD) : sent m ρ 3 c = addB (sent m ρ 1 c) (sent m ρ 1 (pB c)) := rfl

/-- A slot of device `c` at some contents. -/
def slotSome (q : Fin 4) (c : Dev nD) : sProp 𝕄 :=
  iprop(∃ f : Buf (Elt F) ((slotM q).view.loc (c : Thread nD τ)), (slotM q).view.loc (c : Thread nD τ) ↦[(slotM q).view.set]{fullShare} f)

/-- Slot `q` of device `c` holding `X`, and an accumulator of device `c` holding `X`. -/
def slotPts (q : Fin 4) (c : Dev nD) (X : Vec F S512x512 .bf16) : sProp 𝕄 := owns (c : Thread nD τ) (slotM q) fullShare X
def accPts (q : Fin 4) (c : Dev nD) (X : Vec F S512x512 .bf16) : sProp 𝕄 := owns (c : Thread nD τ) (accM q) fullShare X

omit [FloatOps F] in
instance slotSome_storable (q : Fin 4) (c : Dev nD) : BI.Storable (upEmb : UEmb _ 𝕄) (slotSome (F := F) q c) := by unfold slotSome; infer_instance
omit [FloatOps F] in
instance slotPts_storable (q : Fin 4) (c : Dev nD) (X) : BI.Storable (upEmb : UEmb _ 𝕄) (slotPts (F := F) q c X) := by unfold slotPts; infer_instance
omit [FloatOps F] in
instance accPts_storable (q : Fin 4) (c : Dev nD) (X) : BI.Storable (upEmb : UEmb _ 𝕄) (accPts (F := F) q c X) := by unfold accPts; infer_instance

/-! ## The schedule -/

/-- What a barrier signal hands device `c`: from `pA c` (duty `false`) the slots of `pA c` that `c` fills, from `pB c`
    (duty `true`) those of `pB c`. -/
def barPay (c : Dev nD) (d : Bool) : sProp 𝕄 :=
  if d then iprop(slotSome 1 (pB c) ∗ slotSome 2 (pB c)) else iprop(slotSome 0 (pA c) ∗ slotSome 3 (pA c))

/-- What the end of a copy hands device `c`, by the semaphore: its accumulator back, or its slot filled. -/
def dmaPay (c : Dev nD) (d : DmaSem sig) : sProp 𝕄 :=
  if d = sendS 0 then accPts 0 c (sent m ρ 0 c)
  else if d = sendS 1 then accPts 1 c (sent m ρ 1 c)
  else if d = sendS 2 then accPts 2 c (sent m ρ 2 c)
  else if d = sendS 3 then accPts 3 c (sent m ρ 3 c)
  else if d = recvS 0 then slotPts 0 c (sent m ρ 0 (pe 0 c))
  else if d = recvS 1 then slotPts 1 c (sent m ρ 1 (pe 1 c))
  else if d = recvS 2 then slotPts 2 c (sent m ρ 2 (pe 2 c))
  else if d = recvS 3 then slotPts 3 c (sent m ρ 3 (pe 3 c))
  else iprop(emp)

/-- The cells of the exchange: the barrier, the four send and the four receive semaphores of each device. -/
abbrev csem (k : Fin 9) : SemLoc sig := match k with
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)
/-- Where the send and the receive cell of copy `q` stand among them. -/
abbrev kS (q : Fin 4) : Fin 9 := match q with | 0 => 1 | 1 => 2 | 2 => 3 | 3 => 4
abbrev kR (q : Fin 4) : Fin 9 := match q with | 0 => 5 | 1 => 6 | 2 => 7 | 3 => 8
theorem kcell_S (q : Fin 4) (c : Dev nD) : kcell (c, kS q) = sendCell q c := by fin_cases q <;> rfl
theorem kcell_R (q : Fin 4) (c : Dev nD) : kcell (c, kR q) = recvCell q c := by fin_cases q <;> rfl

/-- One round: a barrier cell has two duties of one unit, a copy's cell one duty of the slot's credit. -/
def swapRd : Rounds.Schedule (GSem nD τ sig) Bool 𝕄 where
  duties g r := if r = 0 ∧ g.1.2 = .tc then
      (match g.2 with | .reg _ => Finset.univ | .dma d => if 3 ≤ d.val then {false} else ∅) else ∅
  unitless _ := False
  amount g _ _ := match g.2 with | .reg _ => 1 | .dma _ => N
  payload g _ d := match g.2 with | .reg _ => barPay g.1.1 d | .dma s => dmaPay m ρ g.1.1 s
  amount_pos g _ _ _ := by
    rcases g with ⟨t, s | s⟩
    · exact Nat.one_pos
    · exact N_pos

instance swapRd_payload_storable (g : GSem nD τ sig) (r : ℕ) (d : Bool) :
    BI.Storable (upEmb : UEmb _ 𝕄) ((swapRd (F := F) m ρ).payload g r d) := by
  rcases g with ⟨t, s | s⟩
  · show BI.Storable upEmb (barPay t.1 d)
    unfold barPay; split <;> infer_instance
  · show BI.Storable upEmb (dmaPay m ρ t.1 s)
    unfold dmaPay; (repeat' split) <;> infer_instance

section Sched
variable (c : Dev nD) (q : Fin 4)

theorem duties_bar : (swapRd (F := F) m ρ).duties (barCell c) 0 = Finset.univ := by
  dsimp only [swapRd]; rw [if_pos ⟨rfl, rfl⟩]
theorem duties_dma (d : DmaSem sig) (hd : 3 ≤ d.val) : (swapRd (F := F) m ρ).duties ((c : Thread nD τ), .dma d) 0 = {false} := by
  dsimp only [swapRd]; rw [if_pos ⟨rfl, rfl⟩]; exact if_pos hd
theorem send_ge : 3 ≤ (sendS q).val := by revert q; decide
theorem recv_ge : 3 ≤ (recvS q).val := by revert q; decide
theorem duties_later (g : GSem nD τ sig) : ∀ r, 1 ≤ r → (swapRd (F := F) m ρ).duties g r = ∅ :=
  fun r hr => if_neg fun h => by omega

theorem amount_bar (d : Bool) : (swapRd (F := F) m ρ).amount (barCell c) 0 d = 1 := rfl
theorem amount_dma (s : DmaSem sig) (d : Bool) : (swapRd (F := F) m ρ).amount ((c : Thread nD τ), .dma s) 0 d = N := rfl

theorem expect_bar : (swapRd (F := F) m ρ).expect (barCell c) 0 = 2 := by
  unfold Schedule.expect Schedule.amountOf
  rw [duties_bar]; rfl
theorem expect_dma (d : DmaSem sig) (hd : 3 ≤ d.val) : (swapRd (F := F) m ρ).expect ((c : Thread nD τ), .dma d) 0 = N := by
  unfold Schedule.expect Schedule.amountOf
  rw [duties_dma m ρ c d hd, Finset.sum_singleton, amount_dma]

theorem payload_bar (d : Bool) : (swapRd (F := F) m ρ).payload (barCell c) 0 d = barPay c d := rfl
theorem payload_send (d : Bool) : (swapRd (F := F) m ρ).payload (sendCell q c) 0 d = accPts q c (sent m ρ q c) := by
  show dmaPay m ρ c (sendS q) = _
  unfold dmaPay
  fin_cases q <;> simp only [sendS, recvS, Fin.zero_eta, Fin.mk_one, Fin.reduceFinMk] <;> rfl
theorem payload_recv (d : Bool) : (swapRd (F := F) m ρ).payload (recvCell q c) 0 d = slotPts q c (sent m ρ q (pe q c)) := by
  show dmaPay m ρ c (recvS q) = _
  unfold dmaPay
  fin_cases q <;> simp only [sendS, recvS, Fin.zero_eta, Fin.mk_one, Fin.reduceFinMk] <;> rfl

/-- All that the barrier cell's round hands over: the four slots this device fills. -/
theorem rest_bar : bigSep ((swapRd (F := F) m ρ).duties (barCell c) 0 \ ∅) (fun d => (swapRd (F := F) m ρ).payload (barCell c) 0 d)
    = iprop((slotSome 0 (pA c) ∗ slotSome 3 (pA c)) ∗ (slotSome 1 (pB c) ∗ slotSome 2 (pB c))) := by
  rw [Finset.sdiff_empty, duties_bar, bigSep_univ_eq_bigSepL [false, true] (by decide) (by decide), bigSepL_cons_cons, bigSepL_singleton]
  rfl
theorem rest_dma (d : DmaSem sig) (hd : 3 ≤ d.val) :
    bigSep ((swapRd (F := F) m ρ).duties ((c : Thread nD τ), .dma d) 0 \ ∅) (fun b => (swapRd (F := F) m ρ).payload ((c : Thread nD τ), .dma d) 0 b)
      = (swapRd (F := F) m ρ).payload ((c : Thread nD τ), .dma d) 0 false := by
  rw [Finset.sdiff_empty, duties_dma m ρ c d hd, bigSep_singleton]

end Sched

/-! ## What each device owes at launch; the levels -/

/-- Device `c` owes the credits of its four copies and one unit to each partner's barrier, summed so that each step of
    the body pays the last summand. -/
def O₅ (c : Dev nD) : CellTallies nD τ sig Unit := tallyAt (recvCell 3 (pe 3 c)) () N
def O₄ (c : Dev nD) : CellTallies nD τ sig Unit := O₅ c + tallyAt (recvCell 2 (pe 2 c)) () N
def O₃ (c : Dev nD) : CellTallies nD τ sig Unit := O₄ c + tallyAt (recvCell 1 (pe 1 c)) () N
def O₂ (c : Dev nD) : CellTallies nD τ sig Unit := O₃ c + tallyAt (recvCell 0 (pe 0 c)) () N
def O₁ (c : Dev nD) : CellTallies nD τ sig Unit := O₂ c + tallyAt (barCell (pB c)) () 1
def O₀ (c : Dev nD) : CellTallies nD τ sig Unit := O₁ c + tallyAt (barCell (pA c)) () 1

def L (g : GSem nD τ sig) : Finset Unit := if g.1.2 = .tc then {()} else ∅
/-- Staging and send cells at 0, barrier cells at 1, the receive cells of the first phase at 2 and of the second at 3. -/
def lv (g : GSem nD τ sig) (_ : Unit) : ℕ := match g.2 with
  | .reg _ => 1
  | .dma d => if 9 ≤ d.val then 3 else if 7 ≤ d.val then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A cell with something owed in a sum is owed it in the first summand or is the second's cell. -/
theorem pos_add {A : CellTallies nD τ sig Unit} {g' g : GSem nD τ sig} {u : Unit} {n : ℕ}
    (h : 0 < (A + tallyAt g' () n) g u) : 0 < A g u ∨ g = g' := by
  rw [Pi.add_apply, Finsupp.add_apply, tallyAt_apply] at h
  by_cases hg : g = g'
  · exact .inr hg
  · rw [if_neg (fun h' => hg h'.1)] at h; exact .inl h
omit [FloatOps F] in
theorem pos_one {g' g : GSem nD τ sig} {u : Unit} {n : ℕ} (h : 0 < (tallyAt g' () n : CellTallies nD τ sig Unit) g u) : g = g' := by
  rw [tallyAt_apply] at h
  by_contra hg
  rw [if_neg (fun h' => hg h'.1)] at h; exact Nat.lt_irrefl 0 h

theorem O₄_pos {c : Dev nD} {g : GSem nD τ sig} {u : Unit} (h : 0 < O₄ c g u) : g = recvCell 3 (pe 3 c) ∨ g = recvCell 2 (pe 2 c) :=
  (pos_add h).imp_left pos_one
theorem O₂_pos {c : Dev nD} {g : GSem nD τ sig} {u : Unit} (h : 0 < O₂ c g u) : ∃ q : Fin 4, g = recvCell q (pe q c) := by
  rcases pos_add h with h | h
  · rcases pos_add h with h | h
    · rcases O₄_pos h with h | h
      · exact ⟨3, h⟩
      · exact ⟨2, h⟩
    · exact ⟨1, h⟩
  · exact ⟨0, h⟩
theorem O₀_pos {c : Dev nD} {g : GSem nD τ sig} {u : Unit} (h : 0 < O₀ c g u) :
    (∃ q : Fin 4, g = recvCell q (pe q c)) ∨ g = barCell (pB c) ∨ g = barCell (pA c) := by
  rcases pos_add h with h | h
  · rcases pos_add h with h | h
    · exact .inl (O₂_pos h)
    · exact .inr (.inl h)
  · exact .inr (.inr h)

omit [FloatOps F] in
/-- A device may wait on a cell of a level below every cell it owes. -/
theorem mayWait_below (c : Dev nD) (sm : SemLoc sig) (O : CellTallies nD τ sig Unit) (b : ℕ)
    (hb : lv ((c : Thread nD τ), sm) () ≤ b) (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem lv_recv (q : Fin 4) (c : Dev nD) : 1 < lv (recvCell q c) () := by
  show 1 < (if 9 ≤ (recvS q).val then 3 else if 7 ≤ (recvS q).val then 2 else 0)
  revert q; decide

theorem lv_late (q : Fin 4) (hq : 2 ≤ q.val) (c : Dev nD) (u : Unit) : 2 < lv (recvCell q c) u := by
  show 2 < (if 9 ≤ (recvS q).val then 3 else if 7 ≤ (recvS q).val then 2 else 0)
  revert q; decide

omit [FloatOps F] in
/-- Staging cells: below everything. -/
theorem mayWait_stage (c : Dev nD) (d : DmaSem sig) (hd : d.val < 7) (O : CellTallies nD τ sig Unit) (hO : O = O₀ c ∨ O = 0) :
    (levAts L lv : sProp 𝕄) ⊢ MayWait (c : Thread nD τ) (.dma d) () O := by
  rcases hO with rfl | rfl
  · refine mayWait_below c (.dma d) (O₀ c) 0 ?_ ?_
    · show (if 9 ≤ d.val then 3 else if 7 ≤ d.val then 2 else 0) ≤ 0
      rw [if_neg (by omega), if_neg (by omega)]
    · intro g u h
      rcases O₀_pos h with ⟨q, rfl⟩ | rfl | rfl
      · exact ⟨rfl, Nat.lt_trans Nat.zero_lt_one (lv_recv q _)⟩
      · exact ⟨rfl, Nat.zero_lt_one⟩
      · exact ⟨rfl, Nat.zero_lt_one⟩
  · rw [MayWait_zero]; iintro -; iempintro

omit [FloatOps F] in
/-- At the barrier the four copies are still owed. -/
theorem mayWait_bar (c : Dev nD) : (levAts L lv : sProp 𝕄) ⊢ MayWait (c : Thread nD τ) (.reg barS) () (O₂ c) :=
  mayWait_below c (.reg barS) (O₂ c) 1 (le_refl 1) (fun g u h => by
    obtain ⟨q, rfl⟩ := O₂_pos h; exact ⟨rfl, lv_recv q _⟩)

omit [FloatOps F] in
/-- At the first phase's waits the second phase's two copies are still owed. -/
theorem mayWait_phase (c : Dev nD) (d : DmaSem sig) (hd : d.val < 9) : (levAts L lv : sProp 𝕄) ⊢ MayWait (c : Thread nD τ) (.dma d) () (O₄ c) :=
  mayWait_below c (.dma d) (O₄ c) 2 (by
      show (if 9 ≤ d.val then 3 else if 7 ≤ d.val then 2 else 0) ≤ 2
      rw [if_neg (by omega)]; split <;> omega)
    (fun g u h => by
      rcases O₄_pos h with rfl | rfl
      · exact ⟨rfl, lv_late 3 (by decide) _ _⟩
      · exact ⟨rfl, lv_late 2 (by decide) _ _⟩)

end Cert.KernelIdeal.Swap

end
-- ==== Proof.KernelIdeal.Steps.lean ====
/-
The steps of the body, each stated once: the receive buffer cut into its four slots and put together again, what the
loads and stores of the body read and leave, and the rules for one copy leaving a device and for one wait on a copy.
-/
module

public import proofs.«01_k».proof.Proof.KernelIdeal.Protocol
public import Idealize.ShloMosaic.Lib.Ring
public import Idealize.ShloMosaic.Lib.ValueIdxCore

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The slots -/

/-- The rectangle of slot `q`. -/
abbrev slotR (q : Fin 4) : Rect S2x2x512x512 := match q with | 0 => rect00 | 1 => rect01 | 2 => rect10 | 3 => rect11

theorem slot_set0 : (slotM 0).view.set = rect00.set := (View.set_reshape _ _).trans (View.set_slice_whole cc0_scratch2 rect00)
theorem slot_set1 : (slotM 1).view.set = rect01.set := (View.set_reshape _ _).trans (View.set_slice_whole cc0_scratch2 rect01)
theorem slot_set2 : (slotM 2).view.set = rect10.set := (View.set_reshape _ _).trans (View.set_slice_whole cc0_scratch2 rect10)
theorem slot_set3 : (slotM 3).view.set = rect11.set := (View.set_reshape _ _).trans (View.set_slice_whole cc0_scratch2 rect11)

/-- An element lies in slot `q` exactly when its two leading coordinates are `q`'s two bits. -/
theorem mem_slotR (q : Fin 4) (i : S2x2x512x512.Idx) : i ∈ (slotR q).set ↔ (i 0).val = q.val / 2 ∧ (i 1).val = q.val % 2 := by
  have h0 := (i 0).isLt; have h1 := (i 1).isLt; have h2 := (i 2).isLt; have h3 := (i 3).isLt
  simp [Shape.size] at h0 h1 h2 h3
  match q with
  | 0 => rw [Rect.mem_set_unit, Fin.forall_fin_succ, Fin.forall_fin_succ, Fin.forall_fin_two]; simp; omega
  | 1 => rw [Rect.mem_set_unit, Fin.forall_fin_succ, Fin.forall_fin_succ, Fin.forall_fin_two]; simp; omega
  | 2 => rw [Rect.mem_set_unit, Fin.forall_fin_succ, Fin.forall_fin_succ, Fin.forall_fin_two]; simp; omega
  | 3 => rw [Rect.mem_set_unit, Fin.forall_fin_succ, Fin.forall_fin_succ, Fin.forall_fin_two]; simp; omega

theorem slots_disjoint (q q' : Fin 4) (h : q ≠ q') : Disjoint (slotR q).set (slotR q').set := by
  rw [Finset.disjoint_left]
  intro i hi hi'
  have a := (mem_slotR q i).mp hi
  have b := (mem_slotR q' i).mp hi'
  exact h (Fin.ext (by omega))

theorem slots_cover : Finset.univ.biUnion (fun q : Fin 4 => (slotR q).set) = (Finset.univ : Finset S2x2x512x512.Idx) := by
  ext i
  have h0 := (i 0).isLt; have h1 := (i 1).isLt
  simp [Shape.size] at h0 h1
  simp only [Finset.mem_biUnion, Finset.mem_univ, true_and, iff_true]
  exact ⟨⟨2 * (i 0).val + (i 1).val, by omega⟩, (mem_slotR _ i).mpr ⟨by show _ = (2 * (i 0).val + (i 1).val) / 2; omega, by show _ = (2 * (i 0).val + (i 1).val) % 2; omega⟩⟩

/-- A slot at some contents, by its rectangle in the receive buffer. -/
def rectSome (q : Fin 4) (c : Dev nD) : sProp 𝕄 :=
  iprop(∃ f : Buf (Elt F) ((c : Thread nD τ).loc cc0_scratch2), ((c : Thread nD τ).loc cc0_scratch2) ↦[(slotR q).set]{fullShare} f)

omit [FloatOps F] in
theorem slotSome_eq (q : Fin 4) (c : Dev nD) : slotSome (F := F) q c = rectSome q c := by
  unfold slotSome rectSome
  match q with
  | 0 => rw [slot_set0]
  | 1 => rw [slot_set1]
  | 2 => rw [slot_set2]
  | 3 => rw [slot_set3]

omit [FloatOps F] in
theorem rects_eq (c : Dev nD) : (bigSep Finset.univ fun q => rectSome (F := F) q c)
    = iprop(slotSome 0 c ∗ slotSome 1 c ∗ slotSome 2 c ∗ slotSome 3 c) := by
  rw [bigSep_univ_eq_bigSepL [0, 1, 2, 3] (by decide) (by decide), slotSome_eq, slotSome_eq, slotSome_eq, slotSome_eq]; rfl

omit [FloatOps F] in
/-- The receive buffer at some contents is its four slots at some contents; -/
theorem slots_split (c : Dev nD) :
    (iprop(∃ f : Buf (Elt F) ((c : Thread nD τ).loc cc0_scratch2), ((c : Thread nD τ).loc cc0_scratch2) ↦{fullShare} f) : sProp 𝕄)
      ⊢ iprop(slotSome 0 c ∗ slotSome 1 c ∗ slotSome 2 c ∗ slotSome 3 c) := by
  rw [← rects_eq]
  iintro ⟨%f, H⟩
  have hq (q : Fin 4) : (((c : Thread nD τ).loc cc0_scratch2) ↦[(slotR q).set]{fullShare} f : sProp 𝕄) ⊢ rectSome q c := by
    unfold rectSome; iintro Hq; iexists f; iexact Hq
  iapply ((Entails.of_eq (Ring.pointsTo_blocks (Ix := Unit) (Name := ℕ) (U := UU) (Lvl := ℕ) (q := fullShare) (ℓ := (c : Thread nD τ).loc cc0_scratch2)
    (fun q : Fin 4 => (slotR q).set) slots_disjoint slots_cover f)).trans (bigSep_mono fun q _ => hq q))
  iexact H

include m in
/-- and the four slots make it up again. -/
theorem slots_join (c : Dev nD) : iprop(slotSome 0 c ∗ slotSome 1 c ∗ slotSome 2 c ∗ slotSome 3 c)
    ⊢ (iprop(∃ f : Buf (Elt F) ((c : Thread nD τ).loc cc0_scratch2), ((c : Thread nD τ).loc cc0_scratch2) ↦{fullShare} f) : sProp 𝕄) := by
  rw [← rects_eq]
  unfold rectSome
  exact Ring.pointsTo_blocks_join_exists (Ix := Unit) (Name := ℕ) (U := UU) (Lvl := ℕ) (q := fullShare) (ℓ := (c : Thread nD τ).loc cc0_scratch2)
    (fun q : Fin 4 => (slotR q).set) slots_disjoint slots_cover (m ((c : Thread nD τ).loc cc0_scratch2))

omit [FloatOps F] in
theorem slotPts_some (q : Fin 4) (c : Dev nD) (X : Vec F S512x512 .bf16) : slotPts q c X ⊢ slotSome q c := by
  unfold slotPts owns slotSome
  iintro ⟨%f, -, H⟩; iexists f; iexact H

/-! ## Accumulators, whole -/

omit [FloatOps F] in
theorem acc_even (c : Dev nD) (X : Vec F S512x512 .bf16) :
    accPts 0 c X = (((c : Thread nD τ).loc cc0_scratch0) ↦{fullShare} (X : (cc0_scratch0 : Ref sig .tc).ty.Contents (Elt F)) : sProp 𝕄) :=
  owns_whole (c : Thread nD τ) cc0_scratch0 fullShare X
omit [FloatOps F] in
theorem acc_odd (c : Dev nD) (X : Vec F S512x512 .bf16) :
    accPts 1 c X = (((c : Thread nD τ).loc cc0_scratch1) ↦{fullShare} (X : (cc0_scratch1 : Ref sig .tc).ty.Contents (Elt F)) : sProp 𝕄) :=
  owns_whole (c : Thread nD τ) cc0_scratch1 fullShare X
omit [FloatOps F] in
theorem acc_even' (c : Dev nD) (X : Vec F S512x512 .bf16) :
    accPts 2 c X = (((c : Thread nD τ).loc cc0_scratch0) ↦{fullShare} (X : (cc0_scratch0 : Ref sig .tc).ty.Contents (Elt F)) : sProp 𝕄) :=
  owns_whole (c : Thread nD τ) cc0_scratch0 fullShare X
omit [FloatOps F] in
theorem acc_odd' (c : Dev nD) (X : Vec F S512x512 .bf16) :
    accPts 3 c X = (((c : Thread nD τ).loc cc0_scratch1) ↦{fullShare} (X : (cc0_scratch1 : Ref sig .tc).ty.Contents (Elt F)) : sProp 𝕄) :=
  owns_whole (c : Thread nD τ) cc0_scratch1 fullShare X

/-! ## What loads read and stores leave -/

abbrev rectW : Rect S512x512 := Rect.unit (s := S512x512) ![0, 0] S512x512.size inb_S512x512_S512x512_0_0

theorem hz1 : (![0] : Fin 1 → Nat) = fun _ => 0 := funext fun a => by fin_cases a; rfl
theorem hz2 : (![0, 0] : Fin 2 → Nat) = fun _ => 0 := funext fun a => by fin_cases a <;> rfl

omit [FloatOps F] in
theorem read_ids (f : (cc0_stg1_0 : Ref sig .tc).ty.Contents (Elt F)) :
    (iM : Memref sig .tc .vmem S1024 .i32).view.readAt (Elt F) (Rect.unit (s := S1024) ![0] S1024.size inb_S1024_S1024_0).toLoadRect f = f :=
  Memref.readAt_unit_zero (Elt F) cc0_stg1_0 hz1 _ f
omit [FloatOps F] in
theorem read_tab (f : (cc0_stg0_0 : Ref sig .tc).ty.Contents (Elt F)) :
    (tM : Memref sig .tc .vmem S4096x512 .bf16).view.readAt (Elt F) (Rect.unit (s := S4096x512) ![0, 0] S4096x512.size inb_S4096x512_S4096x512_0_0).toLoadRect f = f :=
  Memref.readAt_unit_zero (Elt F) cc0_stg0_0 hz2 _ f
omit [FloatOps F] in
theorem read_a (f : (cc0_scratch0 : Ref sig .tc).ty.Contents (Elt F)) :
    (aM : Memref sig .tc .vmem S512x512 .bf16).view.readAt (Elt F) rectW.toLoadRect f = f :=
  Memref.readAt_unit_zero (Elt F) cc0_scratch0 hz2 _ f
omit [FloatOps F] in
theorem read_b (f : (cc0_scratch1 : Ref sig .tc).ty.Contents (Elt F)) :
    (bM : Memref sig .tc .vmem S512x512 .bf16).view.readAt (Elt F) rectW.toLoadRect f = f :=
  Memref.readAt_unit_zero (Elt F) cc0_scratch1 hz2 _ f
omit [FloatOps F] in
theorem write_a (f w : (cc0_scratch0 : Ref sig .tc).ty.Contents (Elt F)) :
    ((aM : Memref sig .tc .vmem S512x512 .bf16).access rectW : View sig .tc _ _ _).write (Elt F) f w Finset.univ = w :=
  Memref.write_access_unit_zero_univ (Elt F) cc0_scratch0 hz2 _ f w
omit [FloatOps F] in
theorem write_b (f w : (cc0_scratch1 : Ref sig .tc).ty.Contents (Elt F)) :
    ((bM : Memref sig .tc .vmem S512x512 .bf16).access rectW : View sig .tc _ _ _).write (Elt F) f w Finset.univ = w :=
  Memref.write_access_unit_zero_univ (Elt F) cc0_scratch1 hz2 _ f w

/-- The kernel's four sums of an accumulator and a slot: the slot's rectangle read and recast is the slot read. -/
theorem pay8_eq (V X : Vec F S512x512 .bf16) (f : Buf (Elt F) ((slotM 0).view.loc ((0 : Dev nD) : Thread nD τ)))
    (h : (slotM 0).view.read (Elt F) f = X) : k0_pay8 V (rM.view.readAt (Elt F) rect00.toLoadRect f) = addB V X := by
  subst h; rfl
theorem pay9_eq (V X : Vec F S512x512 .bf16) (f : Buf (Elt F) ((slotM 1).view.loc ((0 : Dev nD) : Thread nD τ)))
    (h : (slotM 1).view.read (Elt F) f = X) : k0_pay9 V (rM.view.readAt (Elt F) rect01.toLoadRect f) = addB V X := by
  subst h; rfl
theorem pay1_eq (V X : Vec F S512x512 .bf16) (f : Buf (Elt F) ((slotM 2).view.loc ((0 : Dev nD) : Thread nD τ)))
    (h : (slotM 2).view.read (Elt F) f = X) : k0_pay1 V (rM.view.readAt (Elt F) rect10.toLoadRect f) = addB V X := by
  subst h; rfl
theorem pay2_eq (V X : Vec F S512x512 .bf16) (f : Buf (Elt F) ((slotM 3).view.loc ((0 : Dev nD) : Thread nD τ)))
    (h : (slotM 3).view.read (Elt F) f = X) : k0_pay2 V (rM.view.readAt (Elt F) rect11.toLoadRect f) = addB V X := by
  subst h; rfl

/-- A load of a slot's rectangle reads elements of the slot alone. -/
theorem slot_load0 : (rM : Memref sig .tc .vmem S2x2x512x512 .bf16).view.setOn rect00.toLoadRect.set ⊆ (slotM 0).view.set := by
  rw [slot_set0]; intro x hx; obtain ⟨y, hy, rfl⟩ := Finset.mem_map.mp hx; exact hy
theorem slot_load1 : (rM : Memref sig .tc .vmem S2x2x512x512 .bf16).view.setOn rect01.toLoadRect.set ⊆ (slotM 1).view.set := by
  rw [slot_set1]; intro x hx; obtain ⟨y, hy, rfl⟩ := Finset.mem_map.mp hx; exact hy
theorem slot_load2 : (rM : Memref sig .tc .vmem S2x2x512x512 .bf16).view.setOn rect10.toLoadRect.set ⊆ (slotM 2).view.set := by
  rw [slot_set2]; intro x hx; obtain ⟨y, hy, rfl⟩ := Finset.mem_map.mp hx; exact hy
theorem slot_load3 : (rM : Memref sig .tc .vmem S2x2x512x512 .bf16).view.setOn rect11.toLoadRect.set ⊆ (slotM 3).view.set := by
  rw [slot_set3]; intro x hx; obtain ⟨y, hy, rfl⟩ := Finset.mem_map.mp hx; exact hy

/-! ## The records every device shares -/

/-- All cells' invariants, under the names `K` they were allocated at, and that each is at round 0. -/
def records (K : Dev nD × Fin 9 → ℕ) : sProp 𝕄 :=
  iprop((bigSep Finset.univ fun ck : Dev nD × Fin 9 => cellInv ER (swapRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at (K : Dev nD × Fin 9 → ℕ) (ck : Dev nD × Fin 9) : records m ρ K ⊢ cellInv ER (swapRd m ρ) (K ck) (kcell ck) :=
  sep_elim_left.trans (bigSep_elim (Finset.mem_univ ck))
theorem round_at (K : Dev nD × Fin 9 → ℕ) (ck : Dev nD × Fin 9) : records m ρ K ⊢ reached ER (kcell ck) 0 :=
  sep_elim_right.trans (bigSep_elim (Finset.mem_univ ck))
theorem inv_bar (K : Dev nD × Fin 9 → ℕ) (c : Dev nD) : records m ρ K ⊢ cellInv ER (swapRd m ρ) (K (c, 0)) (barCell c) := inv_at m ρ K (c, 0)
theorem at_bar (K : Dev nD × Fin 9 → ℕ) (c : Dev nD) : records m ρ K ⊢ reached ER (barCell c) 0 := round_at m ρ K (c, 0)
theorem inv_send (K : Dev nD × Fin 9 → ℕ) (q : Fin 4) (c : Dev nD) : records m ρ K ⊢ cellInv ER (swapRd m ρ) (K (c, kS q)) (sendCell q c) := by rw [← kcell_S]; exact inv_at m ρ K (c, kS q)
theorem at_send (K : Dev nD × Fin 9 → ℕ) (q : Fin 4) (c : Dev nD) : records m ρ K ⊢ reached ER (sendCell q c) 0 := by rw [← kcell_S]; exact round_at m ρ K (c, kS q)
theorem inv_recv (K : Dev nD × Fin 9 → ℕ) (q : Fin 4) (c : Dev nD) : records m ρ K ⊢ cellInv ER (swapRd m ρ) (K (c, kR q)) (recvCell q c) := by rw [← kcell_R]; exact inv_at m ρ K (c, kR q)
theorem at_recv (K : Dev nD × Fin 9 → ℕ) (q : Fin 4) (c : Dev nD) : records m ρ K ⊢ reached ER (recvCell q c) 0 := by rw [← kcell_R]; exact round_at m ρ K (c, kR q)

/-- Device `c` owes `O`, whatever it has waited on. -/
def owing (c : Dev nD) (O : CellTallies nD τ sig Unit) : sProp 𝕄 := iprop(∃ W : Waits sig Unit, owes (c : Thread nD τ) O W)

/-! ## One signal, one copy, one wait, one cell closed -/

section Rules
variable (K : Dev nD × Fin 9 → ℕ)

/-- A barrier signal to `n`: its unit is paid with what the duty hands over. -/
theorem wp_ready (c n n' : Dev nD) (hn : n = n') (d : Bool) (O O' : CellTallies nD τ sig Unit) (hO : O' = O + tallyAt (barCell n') () 1)
    {α : Type} {Q : α → sProp 𝕄} {k : PUnit → Prog (TpuEff nD τ sig (Elt F) Λ₀ .tc) α} :
    iprop(records m ρ K ∗ owing c O' ∗ dutyTok ER (barCell n') 0 d ∗ barPay n' d)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  unfold owing
  iintro ⟨#HR, ⟨%W, HO⟩, Ht, HP⟩ Hk
  iapply (Rounds.wp_signal 𝒱₀ ER (swapRd m ρ) (c : Thread nD τ) none (dst := (n : Thread nD τ)) (κ := K (n, 0))
      (d := d) (by rw [duties_bar]; exact Finset.mem_univ _) ((amount_bar m ρ n d).trans (by decide)) () O hO) $$ [HO Ht HP]
  · isplitr; · iapply (inv_bar m ρ K n); iexact HR
    isplitl [HO]; · iexact HO
    isplitl [Ht]; · iexact Ht
    isplitl [HP]; · rw [payload_bar]; iexact HP
    iapply (at_bar m ρ K n); iexact HR
  iintro HO; iapply Hk; iexists W; iexact HO

/-- Copy `q` leaves device `c`, addressed to `n`, the device it goes to. -/
theorem wp_copy (q : Fin 4) (c n : Dev nD) (hn : n = pe q c) (O O' : CellTallies nD τ sig Unit) (hO : O' = O + tallyAt (recvCell q (pe q c)) () N)
    {hsc : (slotM q : Memref sig (Dev.tc n : Thread nD τ).2.kind .vmem S512x512 .bf16).view.ref.isScScratch = false}
    {hsrc : (accM q).view.WordExact} {hdst : (slotM q).view.WordExact}
    {hsem : DmaTarget.Typed .vmem (.dma (recvS q)) (.remote (Dev.tc n : Thread nD τ) (slotM q) (.dma (sendS q)) hsc)}
    {α : Type} {Q : α → sProp 𝕄} {k : PUnit → Prog (TpuEff nD τ sig (Elt F) Λ₀ .tc) α} :
    iprop(records m ρ K ∗ accPts q c (sent m ρ q c) ∗ slotSome q (pe q c) ∗ owing c O'
        ∗ dutyTok ER (sendCell q c) 0 false ∗ dutyTok ER (recvCell q (pe q c)) 0 false)
      ⊢ iprop(((cred (tallyAt (sendCell q c) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM q) (.remote (Dev.tc n : Thread nD τ) (slotM q) (.dma (sendS q)) hsc) (.dma (recvS q)) hsrc hdst hsem) k) Q) := by
  subst hn
  unfold accPts slotSome owing
  rw [show (owns (c : Thread nD τ) (accM q) fullShare (sent m ρ q c) : sProp 𝕄)
    = iprop(∃ f, ⌜(accM q).view.read (Elt F) f = sent m ρ q c⌝ ∗ ((accM q).view.loc (c : Thread nD τ) ↦[(accM q).view.set]{fullShare} f)) from rfl]
  iintro ⟨#HR, ⟨%fs, %hfs, Hs⟩, ⟨%fd, Hd⟩, ⟨%W, HO⟩, HtS, HtR⟩ Hk
  iapply (Rounds.wp_send_pointsTo 𝒱₀ ER (swapRd m ρ) (c : Thread nD τ) none (κ₁ := K (c, kS q)) (κ₂ := K (pe q c, kR q))
    (r₁ := 0) (r₂ := 0) (d₁ := false) (d₂ := false) (fs := fs) (fd := fd)
    (by rw [duties_dma m ρ c _ (send_ge q)]; exact Finset.mem_singleton_self _) (by rw [duties_dma m ρ (pe q c) _ (recv_ge q)]; exact Finset.mem_singleton_self _)
    () () N (show View.amount _ (SemLoc.dma (recvS q)) = N from credit_slot q) (amount_dma m ρ c _ false) (amount_dma m ρ (pe q c) _ false) O hO (W := W)
    (by
      rw [payload_send]; unfold accPts owns
      iintro H; iexists fs; isplitr; · ipureintro; exact hfs
      iexact H)
    (by
      rw [payload_recv, pe_pe]; unfold slotPts owns
      iintro H; iexists _; isplitr
      swap; · iexact H
      ipureintro; rw [View.read_write_univ]; exact hfs)) $$ [Hs Hd HO HtS HtR]
  · isplitr; · iapply (inv_send m ρ K q c); iexact HR
    isplitr; · iapply (inv_recv m ρ K q (pe q c)); iexact HR
    isplitl [Hs]; · iexact Hs
    isplitl [Hd]; · iexact Hd
    isplitl [HO]; · iexact HO
    isplitl [HtS]; · iexact HtS
    isplitr; · iapply (at_send m ρ K q c); iexact HR
    isplitl [HtR]; · iexact HtR
    iapply (at_recv m ρ K q (pe q c)); iexact HR
  iintro ⟨Hc, HO⟩; iapply Hk
  isplitl [Hc]; · iexact Hc
  iexists W; iexact HO

/-- A wait for one copy's credit on the semaphore `d`: what the copy's end hands over. -/
theorem wp_landed (c : Dev nD) (d : DmaSem sig) (hd : 3 ≤ d.val) (κ : ℕ) (O : CellTallies nD τ sig Unit)
    {src dst : Memref sig .tc .vmem S512x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (swapRd m ρ) κ ((c : Thread nD τ), .dma d) ∗ cred (tallyAt ((c : Thread nD τ), SemLoc.dma d) () N) ∗ owing c O
        ∗ MayWait (c : Thread nD τ) (.dma d) () O ∗ atPos ER ((c : Thread nD τ), .dma d) 0 ∅ 0)
      ⊢ iprop(((owing c O ∗ atPos ER ((c : Thread nD τ), .dma d) (0 + 1) ∅ 0
            ∗ (swapRd (F := F) m ρ).payload ((c : Thread nD τ), .dma d) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 d src dst hsrc hdst) k) Q) := by
  unfold owing
  iintro ⟨#HI, Hc, ⟨%W, HO⟩, HM, Hat⟩ Hk
  iapply (Rounds.wp_wait_rest_token 𝒱₀ ER (swapRd m ρ) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma m ρ c d hd])) $$ [Hc HO HM Hat]
  · isplitr; · iexact HI
    isplitl [Hc]; · iexact Hc
    isplitl [HO]; · iexact HO
    isplitl [HM]; · iexact HM
    iexact Hat
  iintro ⟨HO, Hat, -, Hpay⟩
  iapply Hk
  isplitl [HO]; · iexists _; iexact HO
  isplitl [Hat]; · iexact Hat
  iapply (Entails.of_eq (rest_dma m ρ c d hd)); iexact Hpay

/-- The wait that gets the source of copy `q` back, owing `O`. -/
theorem wp_back (q : Fin 4) (c : Dev nD) (O : CellTallies nD τ sig Unit)
    (hM : (levAts L lv : sProp 𝕄) ⊢ MayWait (c : Thread nD τ) (.dma (sendS q)) () O)
    {hsrc : (slotM q).view.WordExact} {hdst : (accM q).view.WordExact}
    {α : Type} {Q : α → sProp 𝕄} {k : PUnit → Prog (TpuEff nD τ sig (Elt F) Λ₀ .tc) α} :
    iprop(records m ρ K ∗ levAts L lv ∗ cred (tallyAt (sendCell q c) () N) ∗ owing c O ∗ atPos ER (sendCell q c) 0 ∅ 0)
      ⊢ iprop(((owing c O ∗ atPos ER (sendCell q c) (0 + 1) ∅ 0 ∗ accPts q c (sent m ρ q c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS q) (slotM q) (accM q) hsrc hdst) k) Q) := by
  iintro ⟨#HR, Hlev, Hc, HO, Hat⟩ Hk
  iapply (wp_landed m ρ c (sendS q) (send_ge q) (K (c, kS q)) O (src := slotM q) (dst := accM q) (credit_acc q)) $$ [Hlev Hc HO Hat]
  · isplitr; · iapply (inv_send m ρ K q c); iexact HR
    isplitl [Hc]; · iexact Hc
    isplitl [HO]; · iexact HO
    isplitl [Hlev]; · iapply hM; iexact Hlev
    iexact Hat
  rw [payload_send]
  iexact Hk

/-- The wait for the copy that fills slot `q`, owing `O`. -/
theorem wp_filled (q : Fin 4) (c : Dev nD) (O : CellTallies nD τ sig Unit)
    (hM : (levAts L lv : sProp 𝕄) ⊢ MayWait (c : Thread nD τ) (.dma (recvS q)) () O)
    {hsrc : (accM q).view.WordExact} {hdst : (slotM q).view.WordExact}
    {α : Type} {Q : α → sProp 𝕄} {k : PUnit → Prog (TpuEff nD τ sig (Elt F) Λ₀ .tc) α} :
    iprop(records m ρ K ∗ levAts L lv ∗ cred (tallyAt (recvCell q c) () N) ∗ owing c O ∗ atPos ER (recvCell q c) 0 ∅ 0)
      ⊢ iprop(((owing c O ∗ atPos ER (recvCell q c) (0 + 1) ∅ 0 ∗ slotPts q c (sent m ρ q (pe q c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS q) (accM q) (slotM q) hsrc hdst) k) Q) := by
  iintro ⟨#HR, Hlev, Hc, HO, Hat⟩ Hk
  iapply (wp_landed m ρ c (recvS q) (recv_ge q) (K (c, kR q)) O (src := accM q) (dst := slotM q) (credit_slot q)) $$ [Hlev Hc HO Hat]
  · isplitr; · iapply (inv_recv m ρ K q c); iexact HR
    isplitl [Hc]; · iexact Hc
    isplitl [HO]; · iexact HO
    isplitl [Hlev]; · iapply hM; iexact Hlev
    iexact Hat
  rw [payload_recv]
  iexact Hk

/-- The wait for both partners at the barrier: the four slots this device fills. -/
theorem wp_both (c : Dev nD) {α : Type} {Q : α → sProp 𝕄} {k : PUnit → Prog (TpuEff nD τ sig (Elt F) Λ₀ .tc) α} :
    iprop(records m ρ K ∗ levAts L lv ∗ cred (tallyAt (barCell c) () 2) ∗ owing c (O₂ c) ∗ atPos ER (barCell c) 0 ∅ 0)
      ⊢ iprop(((owing c (O₂ c) ∗ atPos ER (barCell c) (0 + 1) ∅ 0
              ∗ (slotSome 0 (pA c) ∗ slotSome 3 (pA c)) ∗ (slotSome 1 (pB c) ∗ slotSome 2 (pB c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32 : BitVec 32).toNat) k) Q) := by
  unfold owing
  iintro ⟨#HR, Hlev, Hc, ⟨%W, HO⟩, Hat⟩ Hk
  iapply (Rounds.wp_wait_rest_token 𝒱₀ ER (swapRd m ρ) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [Hlev Hc HO Hat]
  · isplitr; · iapply (inv_bar m ρ K c); iexact HR
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexists _; iexact HO
  isplitl [Hat]; · iexact Hat
  iapply (Entails.of_eq (rest_bar m ρ c)); iexact Hpay

/-- A cell whose round is over closes: its counter is at zero. -/
theorem close_bar (c : Dev nD) : iprop(records m ρ K ∗ atPos ER (barCell c) (0 + 1) ∅ 0) ⊢ |={Set.univ}=> (semVal (barCell c) 0 : sProp 𝕄) := by
  iintro ⟨#HR, Hat⟩
  iapply (Rounds.cell_close ER (swapRd m ρ) (Set.mem_univ (K (c, 0))) (fun h => h) (R := 0 + 1) (duties_later m ρ (barCell c)))
  isplitr; · iapply (inv_bar m ρ K c); iexact HR
  iexact Hat
theorem close_send (q : Fin 4) (c : Dev nD) : iprop(records m ρ K ∗ atPos ER (sendCell q c) (0 + 1) ∅ 0) ⊢ |={Set.univ}=> (semVal (sendCell q c) 0 : sProp 𝕄) := by
  iintro ⟨#HR, Hat⟩
  iapply (Rounds.cell_close ER (swapRd m ρ) (Set.mem_univ (K (c, kS q))) (fun h => h) (R := 0 + 1) (duties_later m ρ (sendCell q c)))
  isplitr; · iapply (inv_send m ρ K q c); iexact HR
  iexact Hat
theorem close_recv (q : Fin 4) (c : Dev nD) : iprop(records m ρ K ∗ atPos ER (recvCell q c) (0 + 1) ∅ 0) ⊢ |={Set.univ}=> (semVal (recvCell q c) 0 : sProp 𝕄) := by
  iintro ⟨#HR, Hat⟩
  iapply (Rounds.cell_close ER (swapRd m ρ) (Set.mem_univ (K (c, kR q))) (fun h => h) (R := 0 + 1) (duties_later m ρ (recvCell q c)))
  isplitr; · iapply (inv_recv m ρ K q c); iexact HR
  iexact Hat

end Rules

end Cert.KernelIdeal.Swap

end
-- ==== Proof.KernelIdeal.Body.lean ====
/-
The body of the kernel on one device, run once at a symbolic device: from its staged operands, its scratch buffers and
its part of the exchange, to the result's two halves and all nine of its semaphores at zero.
-/
module

public import proofs.«01_k».proof.Proof.KernelIdeal.Steps
public import Idealize.ShloMosaic.Lib.Pipeline.ValueKit

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- What device `c` leaves as its result: the upper half's sum above, the lower half's below, widened. -/
def outAt (c : Dev nD) : (cc0_stg2_0 : Ref sig .tc).ty.Contents (Elt F) := fun i : S1024x512.Idx =>
  if h : (i 0).val < 512 then k0_pay3 (topAt m ρ c) (ix2 ⟨(i 0).val, h⟩ (i 1))
  else k0_pay4 (botAt m ρ c) (ix2 ⟨(i 0).val - 512, by have := ValueIdx.idx2_lt0 i; omega⟩ (i 1))

abbrev rectT : Rect S1024x512 := Rect.unit (s := S1024x512) ![0, 0] S512x512.size inb_S1024x512_S512x512_0_0
abbrev rectB : Rect S1024x512 := Rect.unit (s := S1024x512) ![512, 0] S512x512.size inb_S1024x512_S512x512_512_0

theorem rectT_ix2 (a b : Fin 512) : rectT.emb (ix2 a b) = ix2 ⟨a.val, by omega⟩ b := by
  funext k; match k with
  | ⟨0, _⟩ => exact Fin.ext ((ValueKit.rect_emb_unit_val _ _ _ _ _).trans (Nat.zero_add _))
  | ⟨1, _⟩ => exact Fin.ext ((ValueKit.rect_emb_unit_val _ _ _ _ _).trans (Nat.zero_add _))
theorem rectB_ix2 (a b : Fin 512) : rectB.emb (ix2 a b) = ix2 ⟨512 + a.val, by omega⟩ b := by
  funext k; match k with
  | ⟨0, _⟩ => exact Fin.ext (ValueKit.rect_emb_unit_val _ _ _ _ _)
  | ⟨1, _⟩ => exact Fin.ext ((ValueKit.rect_emb_unit_val _ _ _ _ _).trans (Nat.zero_add _))

/-- The two stores of the result, over any contents, leave `outAt`. -/
theorem write_out (c : Dev nD) (g : (cc0_stg2_0 : Ref sig .tc).ty.Contents (Elt F)) :
    ((oM : Memref sig .tc .vmem S1024x512 .f32).access rectB : View sig .tc _ _ _).write (Elt F)
      (((oM : Memref sig .tc .vmem S1024x512 .f32).access rectT : View sig .tc _ _ _).write (Elt F) g (k0_pay3 (topAt m ρ c)) Finset.univ)
      (k0_pay4 (botAt m ρ c)) Finset.univ = outAt m ρ c := by
  funext i
  change S1024x512.Idx at i
  by_cases h : (i 0).val < 512
  · rw [View.write_of_not_mem]
    · have hi : i = rectT.emb (ix2 ⟨(i 0).val, h⟩ (i 1)) := (eq_ix2 i).trans (rectT_ix2 ⟨(i 0).val, h⟩ (i 1)).symm
      have hr : outAt m ρ c i = k0_pay3 (topAt m ρ c) (ix2 ⟨(i 0).val, h⟩ (i 1)) := dif_pos h
      rw [hr]
      conv_lhs => rw [hi]
      exact View.write_emb_of_mem (v := ((oM : Memref sig .tc .vmem S1024x512 .f32).access rectT : View sig .tc _ _ _)) (Val := Elt F) g (k0_pay3 (topAt m ρ c))
        (Finset.mem_univ (ix2 ⟨(i 0).val, h⟩ (i 1)))
    · intro hm
      obtain ⟨x, -, hx⟩ := Finset.mem_map.mp hm
      have h0 : (i 0).val = 512 + (x 0).val := by
        rw [← hx]; exact ValueKit.rect_emb_unit_val (s := S1024x512) ![512, 0] S512x512.size inb_S1024x512_S512x512_512_0 x 0
      omega
  · have hl := ValueIdx.idx2_lt0 i
    have hi : i = rectB.emb (ix2 ⟨(i 0).val - 512, by omega⟩ (i 1)) := by
      refine (eq_ix2 i).trans (Eq.trans ?_ (rectB_ix2 ⟨(i 0).val - 512, by omega⟩ (i 1)).symm)
      exact congrArg (fun a => ix2 a (i 1)) (Fin.ext (by show (i 0).val = 512 + ((i 0).val - 512); omega))
    have hr : outAt m ρ c i = k0_pay4 (botAt m ρ c) (ix2 ⟨(i 0).val - 512, by omega⟩ (i 1)) := dif_neg h
    rw [hr]
    conv_lhs => rw [hi]
    exact View.write_emb_of_mem (v := ((oM : Memref sig .tc .vmem S1024x512 .f32).access rectB : View sig .tc _ _ _)) (Val := Elt F) _ (k0_pay4 (botAt m ρ c))
      (Finset.mem_univ (ix2 ⟨(i 0).val - 512, by omega⟩ (i 1)))

/-! ## What a device starts from -/

/-- Where device `c` stands at its own nine cells: before their one round. -/
def places (c : Dev nD) : sProp 𝕄 :=
  iprop(atPos ER (barCell c) 0 ∅ 0
    ∗ (atPos ER (sendCell 0 c) 0 ∅ 0 ∗ atPos ER (sendCell 1 c) 0 ∅ 0 ∗ atPos ER (sendCell 2 c) 0 ∅ 0 ∗ atPos ER (sendCell 3 c) 0 ∅ 0)
    ∗ (atPos ER (recvCell 0 c) 0 ∅ 0 ∗ atPos ER (recvCell 1 c) 0 ∅ 0 ∗ atPos ER (recvCell 2 c) 0 ∅ 0 ∗ atPos ER (recvCell 3 c) 0 ∅ 0))

/-- The duties device `c` pays: the two barrier signals, and for each of its copies the credit at either end. -/
def payToks (c : Dev nD) : sProp 𝕄 :=
  iprop(dutyTok ER (barCell (pA c)) 0 false ∗ dutyTok ER (barCell (pB c)) 0 true
    ∗ (dutyTok ER (sendCell 0 c) 0 false ∗ dutyTok ER (sendCell 1 c) 0 false ∗ dutyTok ER (sendCell 2 c) 0 false ∗ dutyTok ER (sendCell 3 c) 0 false)
    ∗ (dutyTok ER (recvCell 0 (pe 0 c)) 0 false ∗ dutyTok ER (recvCell 1 (pe 1 c)) 0 false
      ∗ dutyTok ER (recvCell 2 (pe 2 c)) 0 false ∗ dutyTok ER (recvCell 3 (pe 3 c)) 0 false))

def ghost (K : Dev nD × Fin 9 → ℕ) (c : Dev nD) : sProp 𝕄 := iprop(records m ρ K ∗ places c ∗ payToks c)

/-- The credit each device is owed: two units at its barrier, a slot's credit at each receive cell. -/
def dues (c : Dev nD) : sProp 𝕄 :=
  iprop(cred (tallyAt (barCell c) () 2) ∗ cred (tallyAt (recvCell 0 c) () N) ∗ cred (tallyAt (recvCell 1 c) () N)
    ∗ cred (tallyAt (recvCell 2 c) () N) ∗ cred (tallyAt (recvCell 3 c) () N))

def start (c : Dev nD) : sProp 𝕄 := iprop((∃ K, ghost m ρ K c) ∗ dues c ∗ levAts L lv)

/-- The three scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Its nine cells, closed at zero. -/
def closed (c : Dev nD) : sProp 𝕄 :=
  iprop(semVal (barCell c) 0
    ∗ (semVal (sendCell 0 c) 0 ∗ semVal (sendCell 1 c) 0 ∗ semVal (sendCell 2 c) 0 ∗ semVal (sendCell 3 c) 0)
    ∗ (semVal (recvCell 0 c) 0 ∗ semVal (recvCell 1 c) 0 ∗ semVal (recvCell 2 c) 0 ∗ semVal (recvCell 3 c) 0))

def Φ₀ (c : Dev nD) : sProp 𝕄 := iprop(start m ρ c ∗ scratch c)
def Φ₁ (c : Dev nD) : sProp 𝕄 := iprop(scratch c ∗ closed c)

/-- What the launch's one point is proved over: the arrays as launched, the operands staged, the result staged after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tab m ρ c
    | ⟨1, _⟩ => ids m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 9 → ℕ) (c : Dev nD) : sProp 𝕄 :=
  iprop(((records m ρ K ∗ places c ∗ payToks c) ∗ dues c ∗ levAts L lv ∗ scratch c)
    ∗ owing c (O₀ c)
    ∗ (((c : Thread nD τ).loc cc0_stg0_0) ↦{fullShare} tab m ρ c)
    ∗ (((c : Thread nD τ).loc cc0_stg1_0) ↦{fullShare} ids m ρ c)
    ∗ (∃ g : Buf (Elt F) ((c : Thread nD τ).loc cc0_stg2_0), ((c : Thread nD τ).loc cc0_stg2_0) ↦{fullShare} g))

def bodyPost (c : Dev nD) : sProp 𝕄 :=
  iprop((scratch c ∗ closed c) ∗ owing c 0
    ∗ (((c : Thread nD τ).loc cc0_stg0_0) ↦{fullShare} tab m ρ c)
    ∗ (((c : Thread nD τ).loc cc0_stg1_0) ↦{fullShare} ids m ρ c)
    ∗ (((c : Thread nD τ).loc cc0_stg2_0) ↦{fullShare} outAt m ρ c))

omit [FloatOps F] in
theorem free_wait (c : Dev nD) (s : SemLoc sig) : (levAts L lv : sProp 𝕄) ⊢ MayWait (c : Thread nD τ) s () 0 := by
  rw [MayWait_zero]; iintro -; iempintro

omit [FloatOps F] in
/-- What the two signals hand over: the slots of `c` that the partner fills. -/
theorem hand_A (c : Dev nD) : iprop(slotSome 0 c ∗ slotSome 3 c) ⊢ (barPay (F := F) (pA c) false) :=
  Entails.of_eq (by show _ = iprop(slotSome 0 (pA (pA c)) ∗ slotSome 3 (pA (pA c))); rw [pA_pA])
omit [FloatOps F] in
theorem hand_B (c : Dev nD) : iprop(slotSome 1 c ∗ slotSome 2 c) ⊢ (barPay (F := F) (pB c) true) :=
  Entails.of_eq (by show _ = iprop(slotSome 1 (pB (pB c)) ∗ slotSome 2 (pB (pB c))); rw [pB_pB])

/-- An accumulator just stored, as what the next copy sends. -/
theorem send0 (c : Dev nD) : (((aM : Memref sig .tc .vmem S512x512 .bf16).access rectW : View sig .tc _ _ _).loc (c : Thread nD τ)
    ↦{fullShare} (k0_pay6 c (ids m ρ c) (tab m ρ c) : (cc0_scratch0 : Ref sig .tc).ty.Contents (Elt F)) : sProp 𝕄) ⊢ accPts 0 c (sent m ρ 0 c) :=
  Entails.of_eq (acc_even c (sent m ρ 0 c)).symm
theorem send1 (c : Dev nD) : (((bM : Memref sig .tc .vmem S512x512 .bf16).access rectW : View sig .tc _ _ _).loc (c : Thread nD τ)
    ↦{fullShare} (k0_pay7 c (ids m ρ c) (tab m ρ c) : (cc0_scratch1 : Ref sig .tc).ty.Contents (Elt F)) : sProp 𝕄) ⊢ accPts 1 c (sent m ρ 1 c) :=
  Entails.of_eq (acc_odd c (sent m ρ 1 c)).symm
theorem send2 (c : Dev nD) : (((aM : Memref sig .tc .vmem S512x512 .bf16).access rectW : View sig .tc _ _ _).loc (c : Thread nD τ)
    ↦{fullShare} (addB (sent m ρ 0 c) (sent m ρ 0 (pe 0 c)) : (cc0_scratch0 : Ref sig .tc).ty.Contents (Elt F)) : sProp 𝕄) ⊢ accPts 2 c (sent m ρ 2 c) :=
  Entails.of_eq (acc_even' c (sent m ρ 2 c)).symm
theorem send3 (c : Dev nD) : (((bM : Memref sig .tc .vmem S512x512 .bf16).access rectW : View sig .tc _ _ _).loc (c : Thread nD τ)
    ↦{fullShare} (addB (sent m ρ 1 c) (sent m ρ 1 (pe 1 c)) : (cc0_scratch1 : Ref sig .tc).ty.Contents (Elt F)) : sProp 𝕄) ⊢ accPts 3 c (sent m ρ 3 c) :=
  Entails.of_eq (acc_odd' c (sent m ρ 3 c)).symm

/-- The result's staging buffer after both stores. -/
theorem result (c : Dev nD) (g : (cc0_stg2_0 : Ref sig .tc).ty.Contents (Elt F)) :
    (((oM : Memref sig .tc .vmem S1024x512 .f32).access rectB : View sig .tc _ _ _).loc (c : Thread nD τ) ↦{fullShare}
      ((oM : Memref sig .tc .vmem S1024x512 .f32).access rectB : View sig .tc _ _ _).write (Elt F)
        (((oM : Memref sig .tc .vmem S1024x512 .f32).access rectT : View sig .tc _ _ _).write (Elt F) g
          (k0_pay3 (addB (sent m ρ 2 c) (sent m ρ 2 (pe 2 c)))) Finset.univ)
        (k0_pay4 (addB (sent m ρ 3 c) (sent m ρ 3 (pe 3 c)))) Finset.univ : sProp 𝕄)
      ⊢ (((c : Thread nD τ).loc cc0_stg2_0) ↦{fullShare} outAt m ρ c) :=
  Entails.of_eq (congrArg (fun X => (((c : Thread nD τ).loc cc0_stg2_0) ↦{fullShare} X : sProp 𝕄)) (write_out m ρ c g))

set_option maxHeartbeats 4000000 in
set_option maxRecDepth 4000 in
/-- The body, one rule per step in program order, from `bodyPre` to `bodyPost`. -/
theorem sound_body (K : Dev nD × Fin 9 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre places payToks dues scratch
  iintro ⟨⟨⟨⟨#HR, ⟨HaB, ⟨HaS0, HaS1, HaS2, HaS3⟩, HaR0, HaR1, HaR2, HaR3⟩, HtA, HtB, ⟨HtS0, HtS1, HtS2, HtS3⟩, HtR0, HtR1, HtR2, HtR3⟩,
      ⟨HcB, HcR0, HcR1, HcR2, HcR3⟩, #Hlev, ⟨%fa, Ha⟩, ⟨%fb, Hb⟩, Hr⟩, HO, Hx, Hi, ⟨%g, Ho⟩⟩, Hk⟩
  ihave Hslots := (slots_split (F := F) c) $$ Hr
  icases Hslots with ⟨H0, H1, H2, H3⟩
  -- both partners are told that the slots they fill are free
  iapply (wp_ready m ρ K c _ (pA c) (dev1_eq c) false (O₁ c) (O₀ c) rfl) $$ [HO HtA H0 H3]
  · isplitr; · iexact HR
    isplitl [HO]; · iexact HO
    isplitl [HtA]; · iexact HtA
    iapply (hand_A c)
    isplitl [H0] <;> iassumption
  iintro HO
  iapply (wp_ready m ρ K c _ (pB c) (dev2_eq c) true (O₂ c) (O₁ c) rfl) $$ [HO HtB H1 H2]
  · isplitr; · iexact HR
    isplitl [HO]; · iexact HO
    isplitl [HtB]; · iexact HtB
    iapply (hand_B c)
    isplitl [H1] <;> iassumption
  iintro HO
  iapply (wp_both m ρ K c) $$ [HcB HO HaB]
  · isplitr; · iexact HR
    isplitr; · iexact Hlev
    isplitl [HcB]; · iexact HcB
    isplitl [HO]; · iexact HO
    iexact HaB
  iintro ⟨HO, HaB, ⟨H0, H3⟩, H1, H2⟩
  -- this device's rows of the two halves
  iapply (wp_load 𝒱₀ (c : Thread nD τ) none Set.univ (m := iM) (Finset.subset_univ _)) $$ Hi; iintro Hi
  rw [read_ids]
  iapply (wp_load 𝒱₀ (c : Thread nD τ) none Set.univ (m := tM) (Finset.subset_univ _)) $$ Hx; iintro Hx
  rw [read_tab]
  iapply (wp_load 𝒱₀ (c : Thread nD τ) none Set.univ (m := aM) (Finset.subset_univ _)) $$ Ha; iintro Ha
  iapply (wp_store 𝒱₀ (c : Thread nD τ) none Set.univ (m := aM) (r := rectW) (Mk := Finset.univ) (Finset.subset_univ _)) $$ Ha; iintro Ha
  rw [write_a]
  iapply (wp_load 𝒱₀ (c : Thread nD τ) none Set.univ (m := bM) (Finset.subset_univ _)) $$ Hb; iintro Hb
  iapply (wp_store 𝒱₀ (c : Thread nD τ) none Set.univ (m := bM) (r := rectW) (Mk := Finset.univ) (Finset.subset_univ _)) $$ Hb; iintro Hb
  rw [write_b]
  -- the first phase's copies
  ihave Ha := (send0 m ρ c) $$ Ha
  ihave Hb := (send1 m ρ c) $$ Hb
  iapply (wp_copy m ρ K 0 c _ (dev3_eq c) (O₃ c) (O₂ c) rfl) $$ [HO Ha H0 HtS0 HtR0]
  · isplitr; · iexact HR
    isplitl [Ha]; · iexact Ha
    isplitl [H0]; · iexact H0
    isplitl [HO]; · iexact HO
    isplitl [HtS0] <;> iassumption
  iintro ⟨HcS0, HO⟩
  iapply (wp_copy m ρ K 1 c _ (dev4_eq c) (O₄ c) (O₃ c) rfl) $$ [HO Hb H1 HtS1 HtR1]
  · isplitr; · iexact HR
    isplitl [Hb]; · iexact Hb
    isplitl [H1]; · iexact H1
    isplitl [HO]; · iexact HO
    isplitl [HtS1] <;> iassumption
  iintro ⟨HcS1, HO⟩
  iapply (wp_back m ρ K 0 c (O₄ c) (mayWait_phase c (sendS 0) (by decide))) $$ [HO HcS0 HaS0]
  · isplitr; · iexact HR
    isplitr; · iexact Hlev
    isplitl [HcS0]; · iexact HcS0
    isplitl [HO] <;> iassumption
  iintro ⟨HO, HaS0, Ha⟩
  iapply (wp_filled m ρ K 0 c (O₄ c) (mayWait_phase c (recvS 0) (by decide))) $$ [HO HcR0 HaR0]
  · isplitr; · iexact HR
    isplitr; · iexact Hlev
    isplitl [HcR0]; · iexact HcR0
    isplitl [HO] <;> iassumption
  iintro ⟨HO, HaR0, H0⟩
  iapply (wp_back m ρ K 1 c (O₄ c) (mayWait_phase c (sendS 1) (by decide))) $$ [HO HcS1 HaS1]
  · isplitr; · iexact HR
    isplitr; · iexact Hlev
    isplitl [HcS1]; · iexact HcS1
    isplitl [HO] <;> iassumption
  iintro ⟨HO, HaS1, Hb⟩
  iapply (wp_filled m ρ K 1 c (O₄ c) (mayWait_phase c (recvS 1) (by decide))) $$ [HO HcR1 HaR1]
  · isplitr; · iexact HR
    isplitr; · iexact Hlev
    isplitl [HcR1]; · iexact HcR1
    isplitl [HO] <;> iassumption
  iintro ⟨HO, HaR1, H1⟩
  ihave Ha := (Entails.of_eq (acc_even c (sent m ρ 0 c))) $$ Ha
  ihave Hb := (Entails.of_eq (acc_odd c (sent m ρ 1 c))) $$ Hb
  -- the first sums
  unfold slotPts owns
  icases H0 with ⟨%f0, %hf0, H0⟩
  icases H1 with ⟨%f1, %hf1, H1⟩
  iapply (wp_load 𝒱₀ (c : Thread nD τ) none Set.univ (m := aM) (Finset.subset_univ _)) $$ Ha; iintro Ha
  rw [read_a]
  iapply (wp_load 𝒱₀ (c : Thread nD τ) none Set.univ (m := rM) slot_load0) $$ H0; iintro H0
  rw [pay8_eq _ _ f0 hf0]
  iapply (wp_load 𝒱₀ (c : Thread nD τ) none Set.univ (m := aM) (Finset.subset_univ _)) $$ Ha; iintro Ha
  iapply (wp_store 𝒱₀ (c : Thread nD τ) none Set.univ (m := aM) (r := rectW) (Mk := Finset.univ) (Finset.subset_univ _)) $$ Ha; iintro Ha
  rw [write_a]
  iapply (wp_load 𝒱₀ (c : Thread nD τ) none Set.univ (m := bM) (Finset.subset_univ _)) $$ Hb; iintro Hb
  rw [read_b]
  iapply (wp_load 𝒱₀ (c : Thread nD τ) none Set.univ (m := rM) slot_load1) $$ H1; iintro H1
  rw [pay9_eq _ _ f1 hf1]
  iapply (wp_load 𝒱₀ (c : Thread nD τ) none Set.univ (m := bM) (Finset.subset_univ _)) $$ Hb; iintro Hb
  iapply (wp_store 𝒱₀ (c : Thread nD τ) none Set.univ (m := bM) (r := rectW) (Mk := Finset.univ) (Finset.subset_univ _)) $$ Hb; iintro Hb
  rw [write_b]
  -- the second phase's copies
  ihave Ha := (send2 m ρ c) $$ Ha
  ihave Hb := (send3 m ρ c) $$ Hb
  iapply (wp_copy m ρ K 2 c _ (dev5_eq c) (O₅ c) (O₄ c) rfl) $$ [HO Ha H2 HtS2 HtR2]
  · isplitr; · iexact HR
    isplitl [Ha]; · iexact Ha
    isplitl [H2]; · iexact H2
    isplitl [HO]; · iexact HO
    isplitl [HtS2] <;> iassumption
  iintro ⟨HcS2, HO⟩
  iapply (wp_copy m ρ K 3 c _ (dev6_eq c) 0 (O₅ c) (by unfold O₅; rw [zero_add])) $$ [HO Hb H3 HtS3 HtR3]
  · isplitr; · iexact HR
    isplitl [Hb]; · iexact Hb
    isplitl [H3]; · iexact H3
    isplitl [HO]; · iexact HO
    isplitl [HtS3] <;> iassumption
  iintro ⟨HcS3, HO⟩
  iapply (wp_back m ρ K 2 c 0 (free_wait c _)) $$ [HO HcS2 HaS2]
  · isplitr; · iexact HR
    isplitr; · iexact Hlev
    isplitl [HcS2]; · iexact HcS2
    isplitl [HO] <;> iassumption
  iintro ⟨HO, HaS2, Ha⟩
  iapply (wp_filled m ρ K 2 c 0 (free_wait c _)) $$ [HO HcR2 HaR2]
  · isplitr; · iexact HR
    isplitr; · iexact Hlev
    isplitl [HcR2]; · iexact HcR2
    isplitl [HO] <;> iassumption
  iintro ⟨HO, HaR2, H2⟩
  iapply (wp_back m ρ K 3 c 0 (free_wait c _)) $$ [HO HcS3 HaS3]
  · isplitr; · iexact HR
    isplitr; · iexact Hlev
    isplitl [HcS3]; · iexact HcS3
    isplitl [HO] <;> iassumption
  iintro ⟨HO, HaS3, Hb⟩
  iapply (wp_filled m ρ K 3 c 0 (free_wait c _)) $$ [HO HcR3 HaR3]
  · isplitr; · iexact HR
    isplitr; · iexact Hlev
    isplitl [HcR3]; · iexact HcR3
    isplitl [HO] <;> iassumption
  iintro ⟨HO, HaR3, H3⟩
  ihave Ha := (Entails.of_eq (acc_even' c (sent m ρ 2 c))) $$ Ha
  ihave Hb := (Entails.of_eq (acc_odd' c (sent m ρ 3 c))) $$ Hb
  -- every cell closes
  imod (close_bar m ρ K c) $$ [HaB] with HzB
  · isplitr; · iexact HR
    iexact HaB
  imod (close_send m ρ K 0 c) $$ [HaS0] with HzS0
  · isplitr; · iexact HR
    iexact HaS0
  imod (close_send m ρ K 1 c) $$ [HaS1] with HzS1
  · isplitr; · iexact HR
    iexact HaS1
  imod (close_send m ρ K 2 c) $$ [HaS2] with HzS2
  · isplitr; · iexact HR
    iexact HaS2
  imod (close_send m ρ K 3 c) $$ [HaS3] with HzS3
  · isplitr; · iexact HR
    iexact HaS3
  imod (close_recv m ρ K 0 c) $$ [HaR0] with HzR0
  · isplitr; · iexact HR
    iexact HaR0
  imod (close_recv m ρ K 1 c) $$ [HaR1] with HzR1
  · isplitr; · iexact HR
    iexact HaR1
  imod (close_recv m ρ K 2 c) $$ [HaR2] with HzR2
  · isplitr; · iexact HR
    iexact HaR2
  imod (close_recv m ρ K 3 c) $$ [HaR3] with HzR3
  · isplitr; · iexact HR
    iexact HaR3
  -- the second sums
  unfold slotPts owns
  icases H2 with ⟨%f2, %hf2, H2⟩
  icases H3 with ⟨%f3, %hf3, H3⟩
  iapply (wp_load 𝒱₀ (c : Thread nD τ) none Set.univ (m := aM) (Finset.subset_univ _)) $$ Ha; iintro Ha
  rw [read_a]
  iapply (wp_load 𝒱₀ (c : Thread nD τ) none Set.univ (m := rM) slot_load2) $$ H2; iintro H2
  rw [pay1_eq _ _ f2 hf2]
  iapply (wp_load 𝒱₀ (c : Thread nD τ) none Set.univ (m := aM) (Finset.subset_univ _)) $$ Ha; iintro Ha
  iapply (wp_store 𝒱₀ (c : Thread nD τ) none Set.univ (m := aM) (r := rectW) (Mk := Finset.univ) (Finset.subset_univ _)) $$ Ha; iintro Ha
  rw [write_a]
  iapply (wp_load 𝒱₀ (c : Thread nD τ) none Set.univ (m := bM) (Finset.subset_univ _)) $$ Hb; iintro Hb
  rw [read_b]
  iapply (wp_load 𝒱₀ (c : Thread nD τ) none Set.univ (m := rM) slot_load3) $$ H3; iintro H3
  rw [pay2_eq _ _ f3 hf3]
  iapply (wp_load 𝒱₀ (c : Thread nD τ) none Set.univ (m := bM) (Finset.subset_univ _)) $$ Hb; iintro Hb
  iapply (wp_store 𝒱₀ (c : Thread nD τ) none Set.univ (m := bM) (r := rectW) (Mk := Finset.univ) (Finset.subset_univ _)) $$ Hb; iintro Hb
  rw [write_b]
  -- the result
  iapply (wp_load 𝒱₀ (c : Thread nD τ) none Set.univ (m := aM) (Finset.subset_univ _)) $$ Ha; iintro Ha
  rw [read_a]
  iapply (wp_load 𝒱₀ (c : Thread nD τ) none Set.univ (m := oM) (Finset.subset_univ _)) $$ Ho; iintro Ho
  iapply (wp_store 𝒱₀ (c : Thread nD τ) none Set.univ (m := oM) (r := rectT) (Mk := Finset.univ) (Finset.subset_univ _)) $$ Ho; iintro Ho
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Ho; iintro Ho
  iapply (wp_store 𝒱₀ (c : Thread nD τ) none Set.univ (m := oM) (r := rectB) (Mk := Finset.univ) (Finset.subset_univ _)) $$ Ho; iintro Ho
  ihave Ho := (result m ρ c g) $$ Ho
  rw [wp_ret]; imodintro
  iapply Hk
  unfold bodyPost scratch closed
  isplitl [Ha Hb H0 H1 H2 H3 HzB HzS0 HzS1 HzS2 HzS3 HzR0 HzR1 HzR2 HzR3]
  · isplitl [Ha Hb H0 H1 H2 H3]
    · isplitl [Ha]; · iexists _; iexact Ha
      isplitl [Hb]; · iexists _; iexact Hb
      iapply (slots_join m c)
      unfold slotSome
      isplitl [H0]; · iexists f0; iexact H0
      isplitl [H1]; · iexists f1; iexact H1
      isplitl [H2]; · iexists f2; iexact H2
      iexists f3; iexact H3
    isplitl [HzB]; · iexact HzB
    isplitl [HzS0 HzS1 HzS2 HzS3]
    · isplitl [HzS0]; · iexact HzS0
      isplitl [HzS1]; · iexact HzS1
      isplitl [HzS2] <;> iassumption
    isplitl [HzR0]; · iexact HzR0
    isplitl [HzR1]; · iexact HzR1
    isplitl [HzR2] <;> iassumption
  isplitl [HO]; · iexact HO
  isplitl [Hx]; · iexact Hx
  isplitl [Hi]; · iexact Hi
  iexact Ho

end Cert.KernelIdeal.Swap

end
-- ==== Proof.KernelIdeal.Launch.lean ====
/-
The launch: the body at the pipeline's one point, the exchange's ghost state dealt to the four devices, the credit each
is owed, and the run of the whole program. Every device's result is `outAt`, its operands are unchanged and every
semaphore is at zero.
-/
module

public import proofs.«01_k».proof.Proof.KernelIdeal.Body
public import Idealize.ShloMosaic.Lib.Pipeline.CollectiveSegs

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body at the pipeline's point -/

theorem fetch_tab (t : Fin cfg0.N) : (cfg0.win (0 : Fin 3)).fetch t = true := by rw [fin_N0 t]; rfl
theorem fetch_ids (t : Fin cfg0.N) : (cfg0.win (1 : Fin 3)).fetch t = true := by rw [fin_N0 t]; rfl

omit [FloatOps F] in
theorem stg_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pointPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def pointPost (c : Dev nD) : sProp 𝕄 :=
  iprop(Φ₁ c ∗ (dats m ρ 0 c).owesAt () t0_0.succ
    ∗ stg c cc0_stg0_0 (tab m ρ c) ∗ stg c cc0_stg1_0 (ids m ρ c) ∗ stg c cc0_stg2_0 (outAt m ρ c))

set_option maxRecDepth 4000 in
/-- The body meets the pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [stg_eq]
  show pointPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _) cc0_scratch3 cc0_scratch4)
    (fun _ => pointPost m ρ c)
  unfold pointPre Φ₀ start ghost
  iintro ⟨⟨⟨⟨%K, HR, Hp, Ht⟩, Hd, Hlev⟩, Hscr⟩, Ho, ⟨%d0, %g0, %hg0, Hx⟩, ⟨%d1, %g1, %hg1, Hi⟩, ⟨%d2, %g2, %hg2, Hout⟩⟩
  have hx : g0 = tab m ρ c := by rw [hg0]; unfold Dat.before; rw [if_pos (fetch_tab t0_0)]; rfl
  have hi : g1 = ids m ρ c := by rw [hg1]; unfold Dat.before; rw [if_pos (fetch_ids t0_0)]; rfl
  subst hx; subst hi
  unfold Dat.owesAt Pipeline.owesWithin
  icases Ho with ⟨%W, %hW, HO⟩
  rw [show (dats m ρ 0 c).owed t0_0.castSucc = O₀ c from rfl]
  iapply (sound_body m ρ K c fun _ => pointPost m ρ c)
  unfold bodyPre bodyPost pointPost Dat.owesAt Pipeline.owesWithin owing
  rw [show (dats m ρ 0 c).owed t0_0.succ = 0 from rfl]
  isplitr []
  · isplitl [HR Hp Ht Hd Hlev Hscr]
    · isplitl [HR Hp Ht]
      · isplitl [HR]; · iexact HR
        isplitl [Hp] <;> iassumption
      isplitl [Hd]; · iexact Hd
      isplitl [Hlev] <;> iassumption
    isplitl [HO]; · iexists W; iexact HO
    isplitl [Hx]; · iexact Hx
    isplitl [Hi]; · iexact Hi
    iexists g2; iexact Hout
  · iintro ⟨⟨Hs, Hz⟩, ⟨%W', HO⟩, Hx, Hi, Hout⟩
    unfold Φ₁
    isplitl [Hs Hz]
    · isplitl [Hs] <;> iassumption
    isplitl [HO]
    · iexists W'; isplitr; · ipureintro; exact fun _ _ => Or.inl trivial
      iexact HO
    isplitl [Hx]
    · iexists _; isplitr; · (ipureintro; rfl)
      iexact Hx
    isplitl [Hi]
    · iexists _; isplitr; · (ipureintro; rfl)
      iexact Hi
    iexists _; isplitr; · (ipureintro; rfl)
    iexact Hout

/-! ## The exchange's ghost state -/

/-- The kernel's own eight semaphores. -/
abbrev osem : Fin 8 → SemLoc sig := fun k => csem k.succ
theorem ownSemFacts : Pipeline.OwnSemFacts cfg0.spec osem := by decide

theorem share_eq (c : Dev nD) (w : Fin cfg0.W) : (dats m ρ 0 c).share w = fullShare := by unfold Dat.share; split <;> rfl

theorem csem_injective : ∀ k k' : Fin 9, csem k = csem k' → k = k' := by decide
theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective k k' (congrArg Prod.snd h)
  rw [h1, h2]
def swapCells : Finset (GSem nD τ sig) := Finset.univ.map ⟨kcell, kcell_injective⟩

/-- The ten duties at a device's own cells: which semaphore and which duty. -/
abbrev tsem (j : Fin 10) : SemLoc sig × Bool := match j with
  | 0 => (.reg barS, false) | 1 => (.reg barS, true)
  | 2 => (.dma (sendS 0), false) | 3 => (.dma (sendS 1), false) | 4 => (.dma (sendS 2), false) | 5 => (.dma (sendS 3), false)
  | 6 => (.dma (recvS 0), false) | 7 => (.dma (recvS 1), false) | 8 => (.dma (recvS 2), false) | 9 => (.dma (recvS 3), false)
theorem tsem_injective : ∀ j j' : Fin 10, tsem j = tsem j' → j = j' := by decide
abbrev tokOf (cj : Dev nD × Fin 10) : GSem nD τ sig × ℕ × Bool := (((cj.1 : Thread nD τ), (tsem cj.2).1), 0, (tsem cj.2).2)
theorem tokOf_injective : Function.Injective (tokOf : Dev nD × Fin 10 → GSem nD τ sig × ℕ × Bool) := by
  rintro ⟨c, j⟩ ⟨c', j'⟩ h
  have h1 : c = c' := congrArg (fun x : GSem nD τ sig × ℕ × Bool => x.1.1.1) h
  have h2 : j = j' := tsem_injective j j' (congrArg (fun x : GSem nD τ sig × ℕ × Bool => (x.1.2, x.2.2)) h)
  rw [h1, h2]
def swapToks : Finset (GSem nD τ sig × ℕ × Bool) := Finset.univ.map ⟨tokOf, tokOf_injective⟩

def u₀ : UU :=
  (initOf (Pipeline.cells cfgs cellOf_inj) (Pipeline.launchToks cfgs cellOf_inj), initOf swapCells swapToks)

/-- The duty tokens of device `c`'s own cells. -/
def toks (c : Dev nD) : sProp 𝕄 :=
  iprop(dutyTok ER (barCell c) 0 false ∗ dutyTok ER (barCell c) 0 true
    ∗ dutyTok ER (sendCell 0 c) 0 false ∗ dutyTok ER (sendCell 1 c) 0 false ∗ dutyTok ER (sendCell 2 c) 0 false ∗ dutyTok ER (sendCell 3 c) 0 false
    ∗ dutyTok ER (recvCell 0 c) 0 false ∗ dutyTok ER (recvCell 1 c) 0 false ∗ dutyTok ER (recvCell 2 c) 0 false ∗ dutyTok ER (recvCell 3 c) 0 false)

/-- What the launch deals device `c`, and what the devices make of it together. -/
def G (c : Dev nD) : sProp 𝕄 :=
  iprop((bigSep Finset.univ fun k : Fin 9 => roundState ER (swapRd m ρ) (kcell (c, k)) 0)
    ∗ (bigSep Finset.univ fun k : Fin 9 => iprop(atPos ER (kcell (c, k)) 0 ∅ 0 ∗ reached ER (kcell (c, k)) 0)) ∗ toks c)
def G' (c : Dev nD) : sProp 𝕄 := iprop(∃ K, ghost m ρ K c)

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_swap : BI.own (ER (initOf swapCells swapToks)) ⊢ (|==> bigSep Finset.univ (G m ρ) : sProp 𝕄) := by
  have hX (Φ : GSem nD τ sig → sProp 𝕄) : bigSep swapCells Φ = bigSep Finset.univ fun c : Dev nD => bigSep Finset.univ fun k : Fin 9 => Φ (kcell (c, k)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]
    exact bigSep_congr fun c _ => by unfold toks; rw [bigSep_fin10]; rfl
  iintro HX
  imod (Rounds.fund ER (swapRd m ρ) swapCells swapToks) $$ HX with ⟨Hst, Hr, Hat, Htok⟩
  imodintro
  ihave Hst' := (Entails.of_eq (hX fun g => roundState ER (swapRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0
      ∗ semVal (recvCell 0 c) 0 ∗ semVal (recvCell 1 c) 0 ∗ semVal (recvCell 2 c) 0 ∗ semVal (recvCell 3 c) 0) := by
  rw [Pipeline.ownSems0_eq_of_list c osem [0, 1, 2, 3, 4, 5, 6, 7] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (swapRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (swapRd m ρ) (kcell (c, k)) 0)
      ⊢ (|={Set.univ}=> bigSep Finset.univ fun k => iprop(∃ κ : ℕ, cellInv ER (swapRd m ρ) κ (kcell (c, k))) : sProp 𝕄) from by
        rw [← bigSep_sep']
        exact (bigSep_mono fun k _ => (Rounds.body_intro ER (swapRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to those who pay them: the signallers of each barrier, the sender of each copy. -/
theorem toks_dealt : (bigSep Finset.univ fun c : Dev nD => (toks c : sProp 𝕄)) ⊢ bigSep Finset.univ fun c : Dev nD => payToks c := by
  unfold toks payToks
  simp only [bigSep_sep']
  rw [bigSep_univ_equiv eA (fun c : Dev nD => (dutyTok ER (barCell c) 0 false : sProp 𝕄)),
    bigSep_univ_equiv eB (fun c : Dev nD => (dutyTok ER (barCell c) 0 true : sProp 𝕄)),
    bigSep_univ_equiv (ePe 0) (fun c : Dev nD => (dutyTok ER (recvCell 0 c) 0 false : sProp 𝕄)),
    bigSep_univ_equiv (ePe 1) (fun c : Dev nD => (dutyTok ER (recvCell 1 c) 0 false : sProp 𝕄)),
    bigSep_univ_equiv (ePe 2) (fun c : Dev nD => (dutyTok ER (recvCell 2 c) 0 false : sProp 𝕄)),
    bigSep_univ_equiv (ePe 3) (fun c : Dev nD => (dutyTok ER (recvCell 3 c) 0 false : sProp 𝕄))]
  iintro ⟨HA, HB, H0, H1, H2, H3, HR⟩
  isplitl [HA]; · iexact HA
  isplitl [HB]; · iexact HB
  isplitl [H0 H1 H2 H3]
  · isplitl [H0]; · iexact H0
    isplitl [H1]; · iexact H1
    isplitl [H2] <;> iassumption
  iexact HR

theorem places_intro (c : Dev nD) : (bigSep Finset.univ fun k : Fin 9 => (atPos ER (kcell (c, k)) 0 ∅ 0 : sProp 𝕄)) ⊢ places c := by
  rw [bigSep_fin9]; unfold places
  iintro ⟨HB, H1, H2, H3, H4, HR⟩
  isplitl [HB]; · iexact HB
  isplitl [H1 H2 H3 H4]
  · isplitl [H1]; · iexact H1
    isplitl [H2]; · iexact H2
    isplitl [H3]; · iexact H3
    iexact H4
  iexact HR

theorem ghost_intro (K : Dev nD × Fin 9 → ℕ) (c : Dev nD) : iprop(records m ρ K ∗ places c ∗ payToks c) ⊢ G' m ρ c := by
  unfold G' ghost
  iintro H; iexists K; iexact H

/-- Every device takes its own copy of the exchange's records beside its positions and its tokens. -/
theorem records_dealt (K : Dev nD × Fin 9 → ℕ) :
    iprop(records m ρ K ∗ bigSep Finset.univ fun c : Dev nD => iprop(places c ∗ payToks c)) ⊢ bigSep Finset.univ (G' m ρ) := by
  iintro ⟨HR, H⟩
  ihave HRs := (BI.bigSep_of_persistent (Finset.univ : Finset (Dev nD)) (records m ρ K)) $$ HR
  iapply ((Entails.of_eq (bigSep_sep' Finset.univ (fun _ : Dev nD => records m ρ K) fun c => iprop(places c ∗ payToks c)).symm).trans
    (bigSep_mono fun c _ => ghost_intro m ρ K c))
  isplitl [HRs] <;> iassumption

theorem regroup :
    (bigSep Finset.univ fun c : Dev nD => iprop((bigSep Finset.univ fun k => iprop(∃ κ : ℕ, cellInv ER (swapRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (swapRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (swapRd m ρ) κ (kcell ck) : sProp 𝕄))) $$ HI
  icases HK with ⟨%K, #HI⟩
  ihave Htk := (toks_dealt (F := F)) $$ Htok
  iapply (records_dealt m ρ K)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => sep_mono_left (places_intro c)))
    isplitl [Hat]; · iexact Hat
    iexact Htk

/-- All devices' semaphores at once become the exchange's cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit each device is owed -/

theorem recvS_injective : ∀ q q' : Fin 4, recvS q = recvS q' → q = q' := by decide

theorem tally_recv (q q' : Fin 4) (d c : Dev nD) :
    (tallyAt (recvCell q d) () N : CellTallies nD τ sig Unit) (recvCell q' c) () = if q = q' ∧ d = c then N else 0 := by
  rw [tallyAt_apply]
  by_cases h : q = q' ∧ d = c
  · obtain ⟨rfl, rfl⟩ := h; rw [if_pos ⟨rfl, rfl⟩, if_pos ⟨rfl, rfl⟩]
  · rw [if_neg h, if_neg]
    rintro ⟨hg, -⟩
    refine h ⟨(recvS_injective _ _ ?_).symm, (congrArg (fun g : GSem nD τ sig => g.1.1) hg).symm⟩
    exact SemLoc.dma.inj (congrArg Prod.snd hg)
theorem tally_recv_bar (q : Fin 4) (d c : Dev nD) : (tallyAt (recvCell q d) () N : CellTallies nD τ sig Unit) (barCell c) () = 0 := by
  rw [tallyAt_apply, if_neg]; rintro ⟨hg, -⟩; cases congrArg Prod.snd hg
theorem tally_bar_recv (q : Fin 4) (d c : Dev nD) : (tallyAt (barCell d) () 1 : CellTallies nD τ sig Unit) (recvCell q c) () = 0 := by
  rw [tallyAt_apply, if_neg]; rintro ⟨hg, -⟩; cases congrArg Prod.snd hg
theorem tally_bar (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg h, if_neg]; rintro ⟨hg, -⟩
    exact h (congrArg (fun g : GSem nD τ sig => g.1.1) hg).symm

theorem pA_swap (d c : Dev nD) : pA d = c ↔ d = pA c := ⟨fun h => h ▸ (pA_pA d).symm, fun h => h ▸ pA_pA c⟩
theorem pB_swap (d c : Dev nD) : pB d = c ↔ d = pB c := ⟨fun h => h ▸ (pB_pB d).symm, fun h => h ▸ pB_pB c⟩
theorem pe_swap (q : Fin 4) (d c : Dev nD) : pe q d = c ↔ d = pe q c := ⟨fun h => h ▸ (pe_pe q d).symm, fun h => h ▸ pe_pe q c⟩

/-- What device `d` owes device `c`'s barrier: a unit if they are partners, -/
theorem owed_bar (d c : Dev nD) : O₀ d (barCell c) () = (if d = pB c then 1 else 0) + (if d = pA c then 1 else 0) := by
  unfold O₀ O₁ O₂ O₃ O₄ O₅
  simp only [Pi.add_apply, Finsupp.add_apply]
  rw [tally_recv_bar 0, tally_recv_bar 1, tally_recv_bar 2, tally_recv_bar 3, tally_bar, tally_bar]
  simp only [Nat.zero_add, pA_swap, pB_swap]
/-- and its receive cell `q`: a slot's credit if `d` is the device copy `q` comes from. -/
theorem owed_recv (q : Fin 4) (d c : Dev nD) : O₀ d (recvCell q c) () = if d = pe q c then N else 0 := by
  unfold O₀ O₁ O₂ O₃ O₄ O₅
  simp only [Pi.add_apply, Finsupp.add_apply]
  rw [tally_recv 0, tally_recv 1, tally_recv 2, tally_recv 3, tally_bar_recv, tally_bar_recv]
  generalize N = n
  simp only [pe_swap]
  fin_cases q <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pB c) fun _ => 1, Finset.sum_ite_eq' Finset.univ (pA c) fun _ => 1, if_pos (Finset.mem_univ _), if_pos (Finset.mem_univ _)]
theorem launch_recv (q : Fin 4) (c : Dev nD) :
    tallyOn (recvCell q c) (launchCredit (Pipeline.owing O₀) 0 (recvCell q c)) = (tallyAt (recvCell q c) () N : CellTallies nD τ sig Unit) := by
  unfold tallyAt; refine congrArg _ (Finsupp.ext fun u => ?_); cases u
  rw [Pipeline.launchCredit_owing, Finsupp.single_eq_same, Finset.sum_congr rfl fun d _ => owed_recv q d c, Finset.sum_ite_eq' Finset.univ (pe q c) fun _ => N,
    if_pos (Finset.mem_univ _)]

omit [FloatOps F] in
theorem creds (c : Dev nD) : (Pipeline.launchCred O₀ c : sProp 𝕄) ⊢ dues c := by
  unfold Pipeline.launchCred dues
  rw [← launch_bar c, ← launch_recv 0 c, ← launch_recv 1 c, ← launch_recv 2 c, ← launch_recv 3 c]
  have hs : ∀ Φ : SemLoc sig → sProp 𝕄, bigSep Finset.univ Φ
      ⊢ bigSep ([SemLoc.reg barS, .dma (recvS 0), .dma (recvS 1), .dma (recvS 2), .dma (recvS 3)] : List (SemLoc sig)).toFinset Φ :=
    fun Φ => bigSep_subset (Finset.subset_univ _)
  have hl : ∀ Φ : SemLoc sig → sProp 𝕄, bigSep ([SemLoc.reg barS, .dma (recvS 0), .dma (recvS 1), .dma (recvS 2), .dma (recvS 3)] : List (SemLoc sig)).toFinset Φ
      = iprop(Φ (.reg barS) ∗ Φ (.dma (recvS 0)) ∗ Φ (.dma (recvS 1)) ∗ Φ (.dma (recvS 2)) ∗ Φ (.dma (recvS 3))) :=
    fun Φ => bigSep_eq_bigSepL_of_eq [SemLoc.reg barS, .dma (recvS 0), .dma (recvS 1), .dma (recvS 2), .dma (recvS 3)] rfl (by decide) Φ
  exact (hs _).trans (Entails.of_eq (hl _))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch closed
  iintro ⟨Hr, HzB, ⟨H0, H1, H2, H3⟩, HR⟩
  isplitl [HzB]; · iexact HzB
  isplitl [H0 H1 H2 H3 HR]
  · isplitl [H0]; · iexact H0
    isplitl [H1]; · iexact H1
    isplitl [H2]; · iexact H2
    isplitl [H3]; · iexact H3
    iexact HR
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An operand's or the result's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair run of the program ends, with each array at `finalA` and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_swap m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are what they were. -/
theorem finalA_tab (c : Dev nD) : finalA m ρ c (0 : Fin 3) = m ((c : Thread nD τ).loc main_arg0) :=
  (dats (F := F) m ρ 0 c).arrAt_in (0 : Fin 3) rfl _
theorem finalA_ids (c : Dev nD) : finalA m ρ c (1 : Fin 3) = m ((c : Thread nD τ).loc main_arg1) :=
  (dats (F := F) m ρ 0 c).arrAt_in (1 : Fin 3) rfl _

end Cert.KernelIdeal.Swap

end
-- ==== Proof.KernelIdeal.Values.lean ====
/-
What the kernel leaves, read at an index over the extended reals: the one-hot product of a device picks the row of the
table that the index names if the device holds that row, and is zero otherwise; the exchange sums the four products.
-/
module

public import proofs.«01_k».proof.Proof.KernelIdeal.Launch
public import Idealize.ShloMosaic.Lib.Pointwise
public import Idealize.ShloMosaic.Lib.StableHlo.Predicate

@[expose] public section

noncomputable section

namespace Cert.KernelIdeal.Swap

open Cert.KernelIdeal Cert.KernelIdeal.Gen
open Idealize.ShloMosaic
open Idealize.ShloMosaic.TcCoe
open Idealize.SL.Sem
open scoped BigOperators

/-! ## One device's product -/

/-- A device's word times the rows it holds, as the kernel computes it from the device's number. -/
theorem offset_eq (d : Dev nD) :
    Scalar.muli (Scalar.remsi (Scalar.divsi (Dev.word d) 1#32) 4#32) 4096#32 = BitVec.ofNat 32 (4096 * d.val) := by
  revert d; decide +kernel

/-- An index moved by a device's offset is local row `k` of that device exactly if it names the table's row `4096 d + k`. -/
theorem local_iff (d : Dev nD) (k : Fin 4096) (n : ℕ) (hn : n < 16384) :
    BitVec.ofNat 32 k.val = IntOp.subi (BitVec.ofNat 32 n) (BitVec.ofNat 32 (4096 * d.val)) ↔ 4096 * d.val + k.val = n := by
  have hd : d.val < 4 := d.isLt
  have hk := k.isLt
  unfold IntOp.subi
  rw [← BitVec.toNat_inj]
  simp only [BitVec.toNat_sub, BitVec.toNat_ofNat]
  omega

/-- One entry of the one-hot matrix over the extended reals. -/
theorem onehot_at (p : Prop) [Decidable p] (a b : BitVec 32) (h : a = b ↔ p) :
    (FloatOps.sitofp FTy.f32 (BitVec.setWidth 32 (IntOp.cmpi CmpIPredicate.eq a b)) : Ideal .f32) = if p then (1 : EReal) else 0 := by
  by_cases e : a = b
  · rw [if_pos (h.1 e), StableHlo.Predicate.cmpi_eq_iff.2 e]
    show (((BitVec.setWidth 32 1#1).toInt : ℝ) : EReal) = 1
    simp
  · rw [if_neg fun hp => e (h.2 hp), ValueIdx.eq_zero_of_ne_one fun h1 => e (StableHlo.Predicate.cmpi_eq_iff.1 h1)]
    show (((BitVec.setWidth 32 0#1).toInt : ℝ) : EReal) = 0
    simp

set_option maxRecDepth 16384 in
set_option maxHeartbeats 1000000 in
/-- Row `i` of device `d`'s product, where the index `i` names row `n` of the whole table `T` and `t` is block `d` of `T`:
    that row if device `d` holds it, otherwise zero. -/
theorem pay5_at (d : Dev nD) (x : Vec Ideal S1024 .i32) (t : Vec Ideal S4096x512 .bf16) (T : Fin 16384 → Fin 512 → EReal)
    (ht : ∀ (k : Fin 4096) (j : Fin 512) (h : 4096 * d.val + k.val < 16384), t (ix2 k j) = T ⟨4096 * d.val + k.val, h⟩ j)
    (i : Fin 1024) (j : Fin 512) (n : Fin 16384) (hx : x (ix1 i) = BitVec.ofNat 32 n.val) :
    k0_pay5 (F := Ideal) d x t (ix2 i j) = if n.val / 4096 = d.val then T n j else 0 := by
  pointwise [k0_pay5]
  have hd : d.val < 4 := d.isLt
  have hn := n.isLt
  have key : ∀ k : Fin 4096, (FloatOps.sitofp FTy.f32 (BitVec.setWidth 32 (IntOp.cmpi CmpIPredicate.eq (BitVec.ofNat 32 k.val)
        (IntOp.subi (x (ix1 i)) (Scalar.muli (Scalar.remsi (Scalar.divsi d.word 1#32) 4#32) 4096#32)))) : Ideal .f32)
      = if 4096 * d.val + k.val = n.val then (1 : EReal) else 0 := fun k =>
    onehot_at _ _ _ (by rw [hx, offset_eq]; exact local_iff d k n.val hn)
  refine (Finset.sum_congr rfl fun k _ => congrArg (· * t (ix2 k j)) (key k)).trans ?_
  by_cases h : n.val / 4096 = d.val
  · rw [if_pos h]
    have hk : n.val - 4096 * d.val < 4096 := by omega
    rw [Finset.sum_eq_single (⟨n.val - 4096 * d.val, hk⟩ : Fin 4096)]
    · have e : 4096 * d.val + (n.val - 4096 * d.val) = n.val := by omega
      dsimp only
      rw [if_pos e, ht _ _ (by dsimp only; omega)]
      refine (one_mul _).trans (congrArg (T · j) (Fin.ext e))
    · intro k _ hne
      rw [if_neg fun e => hne (Fin.ext (by dsimp only; omega))]
      exact zero_mul _
    · exact fun h => absurd (Finset.mem_univ _) h
  · rw [if_neg h]
    refine Finset.sum_eq_zero fun k _ => ?_
    have := k.isLt
    rw [if_neg (by omega)]
    exact zero_mul _

/-! ## The sum over the four devices -/

/-- Of the four devices exactly one holds a row: the sum of what they contribute, in either order in which the kernel
    adds, is that row. -/
theorem sum_top (c : Dev nD) (q : ℕ) (hq : q < 4) (v : EReal) :
    ((if q = c.val then v else 0) + (if q = (pA c).val then v else 0))
      + ((if q = (pB c).val then v else 0) + (if q = (pA (pB c)).val then v else 0)) = v := by
  fin_cases c <;> interval_cases q <;> simp [pA, pB, nD]
theorem sum_bot (c : Dev nD) (q : ℕ) (hq : q < 4) (v : EReal) :
    ((if q = c.val then v else 0) + (if q = (pB c).val then v else 0))
      + ((if q = (pA c).val then v else 0) + (if q = (pB (pA c)).val then v else 0)) = v := by
  fin_cases c <;> interval_cases q <;> simp [pA, pB, nD]

theorem pay6_at (d : Dev nD) (x : Vec Ideal S1024 .i32) (t : Vec Ideal S4096x512 .bf16) (i j : Fin 512) :
    k0_pay6 (F := Ideal) d x t (ix2 i j) = k0_pay5 (F := Ideal) d x t (ix2 (⟨i.val, by omega⟩ : Fin 1024) j) := by
  pointwise! [k0_pay6]
theorem pay7_at (d : Dev nD) (x : Vec Ideal S1024 .i32) (t : Vec Ideal S4096x512 .bf16) (i j : Fin 512) :
    k0_pay7 (F := Ideal) d x t (ix2 i j) = k0_pay5 (F := Ideal) d x t (ix2 (⟨512 + i.val, by omega⟩ : Fin 1024) j) := by
  pointwise! [k0_pay7]
theorem addB_at (X Y : Vec Ideal S512x512 .bf16) (i j : Fin 512) :
    addB (F := Ideal) X Y (ix2 i j) = (X (ix2 i j) + Y (ix2 i j) : EReal) := by
  pointwise! [addB]

variable (m : (ℓ : Loc nD τ sig) → Buf (Elt Ideal) ℓ) (ρ : Dev nD → PrngReg)

/-- The staged table and indices are the argument arrays. -/
theorem tab_eq (c : Dev nD) : tab (F := Ideal) m ρ c = m ((c : Thread nD τ).loc main_arg0) := by
  have hz : (fun a => (win0_0.index t0_0) a * main_arg0.ty.shape.size a) = fun _ => 0 :=
    funext fun a => by fin_cases a <;> decide
  exact Memref.read_access_unit_zero (Elt Ideal) main_arg0 hz (fun a => by fin_cases a <;> decide) _
theorem ids_eq (c : Dev nD) : ids (F := Ideal) m ρ c = m ((c : Thread nD τ).loc main_arg1) := by
  have hz : (fun a => (win0_1.index t0_0) a * main_arg1.ty.shape.size a) = fun _ => 0 :=
    funext fun a => by fin_cases a <;> decide
  exact Memref.read_access_unit_zero (Elt Ideal) main_arg1 hz (fun a => by fin_cases a <;> decide) _

/-- The result array after the run is what the body left in its staging buffer. -/
theorem finalA_out (c : Dev nD) : finalA (F := Ideal) m ρ c (2 : Fin 3) = outAt (F := Ideal) m ρ c := by
  have hz : (fun a => (win0_2.index t0_0) a * main_v1.ty.shape.size a) = fun _ => 0 :=
    funext fun a => by fin_cases a <;> decide
  have hr := fun f => Memref.read_access_unit_zero (Elt Ideal) main_v1 hz (fun a => by fin_cases a <;> decide) f
  have e : (win0_2.blk t0_0).view.read (Elt Ideal) (finalA (F := Ideal) m ρ c (2 : Fin 3)) = outAt (F := Ideal) m ρ c := by
    unfold finalA
    rw [show cfg0.N = t0_0.val + 1 from rfl, (dats (F := Ideal) m ρ 0 c).arrAt_succ (2 : Fin 3) t0_0]
    rw [show (cfg0.win (2 : Fin 3)).flush t0_0 = true from by decide, if_pos rfl]
    exact View.read_write_univ _ _
  exact (hr _).symm.trans e

/-- THE RESULT, on every device: where the index array names rows of the whole table `T` and every device holds its
    block of `T`, row `i` of the result is the row of `T` that index `i` names. -/
theorem out_at (T : Fin 16384 → Fin 512 → EReal) (n : Fin 1024 → Fin 16384)
    (hT : ∀ (c : Dev nD) (k : Fin 4096) (j : Fin 512) (h : 4096 * c.val + k.val < 16384),
      tab (F := Ideal) m ρ c (ix2 k j) = T ⟨4096 * c.val + k.val, h⟩ j)
    (hn : ∀ (c : Dev nD) (i : Fin 1024), ids (F := Ideal) m ρ c (ix1 i) = BitVec.ofNat 32 (n i).val)
    (c : Dev nD) (i : Fin 1024) (j : Fin 512) : outAt (F := Ideal) m ρ c (ix2 i j) = T (n i) j := by
  have hq : ∀ i, (n i).val / 4096 < 4 := fun i => by have := (n i).isLt; omega
  unfold outAt
  by_cases h : i.val < 512
  · refine (dif_pos h).trans ?_
    show topAt (F := Ideal) m ρ c (ix2 (⟨i.val, h⟩ : Fin 512) j) = _
    unfold topAt
    simp only [sent_2, addB_at]
    show ((k0_pay6 (F := Ideal) c _ _ _ + k0_pay6 (F := Ideal) _ _ _ _ : EReal) + (k0_pay6 (F := Ideal) _ _ _ _ + k0_pay6 (F := Ideal) _ _ _ _)) = _
    simp only [pay6_at, pay5_at _ _ _ T (hT _) _ j _ (hn _ _)]
    exact sum_top c _ (hq i) _
  · have hi := i.isLt
    have e : (⟨512 + (i.val - 512), by omega⟩ : Fin 1024) = i := Fin.ext (by dsimp only; omega)
    refine (dif_neg h).trans ?_
    show botAt (F := Ideal) m ρ c (ix2 (⟨i.val - 512, by omega⟩ : Fin 512) j) = _
    unfold botAt
    simp only [sent_3, addB_at]
    show ((k0_pay7 (F := Ideal) c _ _ _ + k0_pay7 (F := Ideal) _ _ _ _ : EReal) + (k0_pay7 (F := Ideal) _ _ _ _ + k0_pay7 (F := Ideal) _ _ _ _)) = _
    simp only [pay7_at, pay5_at _ _ _ T (hT _) _ j _ (hn _ _), e]
    exact sum_bot c _ (hq i) _

end Cert.KernelIdeal.Swap
-- ==== Proof.ReferenceIdeal.Values.lean ====
/-
What the reference leaves, read at an index: where every index lies between 0 and 16383, row `i` of the result is the
row of the table that index `i` names. The precondition says that of the indices.
-/
module

public import proofs.«01_k».proof.Proof.Gen.ReferenceIdeal.Run
public import proofs.«01_k».proof.Proof.Gen.Pre_in_range_KernelIdeal
public import Idealize.ShloMosaic.Lib.Routing.Ops
public import Idealize.ShloMosaic.Lib.ReduceAll
public import Idealize.ShloMosaic.Lib.Pointwise

@[expose] public section

noncomputable section

namespace Cert.ReferenceIdeal.Rows

open Idealize.ShloMosaic
open Idealize.ShloMosaic.TcCoe
open Idealize.SL.Sem

/-- A word at least 0 and below 16384, read signed, is the word of a row number. -/
theorem word_of_range (w : BitVec 32) (h0 : IntOp.cmpi .sge w 0#32 = 1#1) (h1 : IntOp.cmpi .slt w 16384#32 = 1#1) :
    w.toNat < 16384 := by
  have e0 : (0#32).sle w = true := (StableHlo.Predicate.ofBool_eq_one_iff _).1 h0
  have e1 : w.slt 16384#32 = true := (StableHlo.Predicate.ofBool_eq_one_iff _).1 h1
  simp [BitVec.sle_eq_decide, BitVec.slt_eq_decide] at e0 e1
  rw [BitVec.toInt_eq_toNat_cond] at e0 e1
  split at e0 <;> omega

section Pre
open Cert.Pre_in_range_KernelIdeal Cert.Pre_in_range_KernelIdeal.Gen

instance : Subsingleton S_.Idx := ⟨fun a b => funext fun x => x.elim0⟩

/-- The precondition on one device's blocks: every index is a row number of the whole table. -/
theorem pre_rows (t : FVec Ideal S4096x512 .bf16) (x : IVec S1024 32) (h : fn (F := Ideal) t x = fun _ => 1#1) (i : Fin 1024) :
    (x (ix1 i)).toNat < 16384 := by
  have e := Host.reduce_andi_all _ _ _ _ (fun a => a.elim0) (congrFun h fun a => a.elim0) (ix1 i)
  obtain ⟨h0, h1⟩ := IntOp.andi_eq_one.1 e
  exact word_of_range _ h0 h1

end Pre

section Value
open Cert.ReferenceIdeal Cert.ReferenceIdeal.Gen

/-- What the reference computes of a table and indices. -/
def value (t : FVec Ideal S16384x512 .bf16) (x : IVec S1024 32) : FVec Ideal S1024x512 .f32 :=
  extf .f32 (Host.gather gather_S16384x512_S1024x1_S1024x512_1_0_n_n_0_1_1512 t
    (broadcastInDim S1024x1 ![0] bcast_S1024_S1024x1_0
      (select (cmpi .slt x (broadcastInDim S1024 ![] bcast_S_S1024 (constantI S_ 32 0#32)))
        (addi x (broadcastInDim S1024 ![] bcast_S_S1024 (constantI S_ 32 16384#32))) x))) bitsLt_bf16_f32

/-- An index that is a row number is not moved by the wrap of negative indices. -/
theorem wrap_at (x : IVec S1024 32) (i : Fin 1024) (h : (x (ix1 i)).toNat < 16384) :
    broadcastInDim S1024x1 ![0] bcast_S1024_S1024x1_0
      (select (cmpi .slt x (broadcastInDim S1024 ![] bcast_S_S1024 (constantI S_ 32 0#32)))
        (addi x (broadcastInDim S1024 ![] bcast_S_S1024 (constantI S_ 32 16384#32))) x) (ix2 i (0 : Fin 1)) = x (ix1 i) := by
  pointwise
  have hz : IntOp.cmpi .slt (x (ix1 i)) 0#32 = 0#1 := by
    refine ValueIdx.eq_zero_of_ne_one fun e => ?_
    have e1 := (StableHlo.Predicate.slt_iff_toNat (a := x (ix1 i)) (b := 0#32) (by omega) (by decide)).1 e
    simp at e1
  rw [hz]; rfl

/-- Row `i` of the reference's result is the row of the table that index `i` names. -/
theorem value_at (t : FVec Ideal S16384x512 .bf16) (x : IVec S1024 32) (i : Fin 1024) (j : Fin 512) (n : Fin 16384)
    (h : x (ix1 i) = BitVec.ofNat 32 n.val) : value t x (ix2 i j) = t (ix2 n j) := by
  have hn := n.isLt
  have hw : (x (ix1 i)).toNat < 16384 := by rw [h, BitVec.toNat_ofNat]; omega
  exact Routing.gather_row _ rfl rfl rfl rfl rfl t _ i j n ((wrap_at x i hw).trans h) (by decide)

end Value

end Cert.ReferenceIdeal.Rows
-- ==== Proof.lean ====
/-
The proof of `Cert.Claim`: the runs of the kernel (at both readings of its floats) and of the reference, and the
equation of their results.

* `proof/Proof/Kernel/`, `proof/Proof/KernelIdeal/`: the same modules at the two printed programs. `Protocol` states
  the exchange, `Steps` the rules of its single operations, `Body` runs the body on one device, `Launch` the program.
* `proof/Proof/KernelIdeal/Values`: the kernel's result at an index, over the extended reals.
* `proof/Proof/ReferenceIdeal/Values`: the reference's result at an index, and what the precondition says.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Kernel.Launch
public import proofs.«01_k».proof.Proof.KernelIdeal.Launch
public import proofs.«01_k».proof.Proof.KernelIdeal.Values
public import proofs.«01_k».proof.Proof.ReferenceIdeal.Values
public import Idealize.ShloMosaic.Lib.Layout
public import Idealize.ShloMosaic.Adequacy
public import Idealize.ShloMosaic.Init

@[expose] public section

noncomputable section

namespace Cert.Proof

open Idealize.ShloMosaic Idealize.ShloMosaic.TcCoe Idealize.SL.Sem

/-- The kernel runs on every device, its operands end unchanged and every semaphore counter at zero. -/
theorem frame_kernel : Cert.quiescent_Kernel (hKernel := Cert.Kernel.Gen.facts) := by
  intro m ρ _
  exact (θ_run Cert.Kernel.defs _ _).mono (fun _ h => ⟨fun c =>
      ⟨(h.1 c (0 : Fin 3)).trans (Cert.Kernel.Swap.finalA_tab m ρ c), (h.1 c (1 : Fin 3)).trans (Cert.Kernel.Swap.finalA_ids m ρ c)⟩, h.2⟩)
    (Cert.Kernel.Swap.run_main (F := Bits) m ρ)

/-- The same of the kernel read over the extended reals, from any memory. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c =>
      ⟨(h.1 c (0 : Fin 3)).trans (Cert.KernelIdeal.Swap.finalA_tab m ρ c), (h.1 c (1 : Fin 3)).trans (Cert.KernelIdeal.Swap.finalA_ids m ρ c)⟩, h.2⟩)
    (Cert.KernelIdeal.Swap.run_main (F := Ideal) m ρ)

/-- The reference runs, its operands end unchanged and every semaphore counter at zero, from any memory. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The equation: where every index names a row of the table, each device's result is the reference's, the rows of the
    table that the indices name. -/
theorem results_agree : Cert.algebraic_KernelIdeal_ReferenceIdeal_pre_in_range_KernelIdeal (hKernelIdeal := Cert.KernelIdeal.Gen.facts)
    (hReferenceIdeal := Cert.ReferenceIdeal.Gen.facts) (hPre_in_range_KernelIdeal := Cert.Pre_in_range_KernelIdeal.Gen.facts) := by
  intro m ρ m' ρ' hpre hagree
  refine ⟨Cert.ReferenceIdeal.Rows.value
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c (2 : Fin 3)).trans ?_,
      (h.1 c (0 : Fin 3)).trans (Cert.KernelIdeal.Swap.finalA_tab m ρ c), (h.1 c (1 : Fin 3)).trans (Cert.KernelIdeal.Swap.finalA_ids m ρ c)⟩)
      (Cert.KernelIdeal.Swap.run_main (F := Ideal) m ρ)
    have hrow := fun i => Cert.ReferenceIdeal.Rows.pre_rows _ _ (hpre 0) i
    rw [(hagree 0).2] at hrow
    refine (Cert.KernelIdeal.Swap.finalA_out m ρ c).trans (funext fun (i : (⟨2, ![1024, 512]⟩ : Shape).Idx) => ?_)
    rw [eq_ix2 i]
    refine (Cert.KernelIdeal.Swap.out_at m ρ
      (fun n j => m' (((0 : Dev Cert.ReferenceIdeal.nD).tc : Thread Cert.ReferenceIdeal.nD Cert.ReferenceIdeal.τ).loc Cert.ReferenceIdeal.main_arg0) (ix2 n j))
      (fun i => ⟨_, hrow i⟩) (fun c k j h => ?_) (fun c i => ?_) c (i 0) (i 1)).trans
      (Cert.ReferenceIdeal.Rows.value_at _ _ (i 0) (i 1) ⟨_, hrow (i 0)⟩ (by rw [BitVec.ofNat_toNat, BitVec.setWidth_eq])).symm
    · rw [Cert.KernelIdeal.Swap.tab_eq]
      refine (congrFun (hagree c).1 (ix2 k j)).trans ?_
      rw [Layout.block_apply]
      refine congrArg (m' _) (funext fun a => Fin.ext ?_)
      match a with
      | ⟨0, _⟩ => show c.val * 4096 + k.val = 4096 * c.val + k.val; omega
      | ⟨1, _⟩ => rfl
    · rw [Cert.KernelIdeal.Swap.ids_eq, BitVec.ofNat_toNat, BitVec.setWidth_eq]
      exact congrFun (hagree c).2 (ix1 i)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Pre_in_range_KernelIdeal.Gen.facts, Cert.Pre_in_range_ReferenceIdeal.Gen.facts,
  frame_kernel, fun m ρ _ => frame_ideal m ρ, fun m ρ _ => frame_ideal m ρ, fun m ρ _ => frame_reference m ρ,
  fun m ρ _ => frame_reference m ρ, trivial, results_agree⟩

end Cert.Proof

end
